-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S2x8x64x512 : Shape := ⟨4, ![2, 8, 64, 512]⟩
abbrev S8 : Shape := ⟨1, ![8]⟩
abbrev S64x512 : Shape := ⟨2, ![64, 512]⟩
abbrev S1x1x64x512 : Shape := ⟨4, ![1, 1, 64, 512]⟩
abbrev S_ : Shape := ⟨0, ![]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .local _ .vmem, ⟨0, _⟩ => ⟨S512x512, .bf16⟩
  | .local _ .vmem, ⟨1, _⟩ => ⟨S512x1024, .bf16⟩
  | .local _ .vmem, ⟨2, _⟩ => ⟨S2x8x64x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_38 : BitVec 32 := 2#32
  let v49 : BitVec 32 := Scalar.muli v6 c2_i32_38
  let v50 : BitVec 32 := Scalar.addi c0_i32 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v51 : BitVec 32 := Scalar.muli v5 c1_i32_39
  let v52 : BitVec 32 := Scalar.addi v50 v51
  v52.toNat
def k0_dev2 (d0 : Dev nD) : Nat :=
  let c0_i32_42 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_41 : BitVec 32 := 2#32
  let v53 : BitVec 32 := Scalar.muli v2 c2_i32_41
  let v54 : BitVec 32 := Scalar.addi c0_i32_42 v53
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_43 : BitVec 32 := 1#32
  let v55 : BitVec 32 := Scalar.muli v7 c1_i32_43
  let v56 : BitVec 32 := Scalar.addi v54 v55
  v56.toNat
def k0_dev3 (d0 : Dev nD) : Nat :=
  let c0_i32_52 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_51 : BitVec 32 := 2#32
  let v57 : BitVec 32 := Scalar.muli v6 c2_i32_51
  let v58 : BitVec 32 := Scalar.addi c0_i32_52 v57
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v59 : BitVec 32 := Scalar.muli v5 c1_i32_53
  let v60 : BitVec 32 := Scalar.addi v58 v59
  v60.toNat
def k0_dev4 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v69 : BitVec 32 := Scalar.muli v6 c2_i32_64
  let v70 : BitVec 32 := Scalar.addi c0_i32_65 v69
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v71 : BitVec 32 := Scalar.muli v5 c1_i32_66
  let v72 : BitVec 32 := Scalar.addi v70 v71
  v72.toNat
def k0_dev5 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v81 : BitVec 32 := Scalar.muli v6 c2_i32_77
  let v82 : BitVec 32 := Scalar.addi c0_i32_78 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v83 : BitVec 32 := Scalar.muli v5 c1_i32_79
  let v84 : BitVec 32 := Scalar.addi v82 v83
  v84.toNat
def k0_dev6 (d0 : Dev nD) : Nat :=
  let c0_i32_90 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_89 : BitVec 32 := 2#32
  let v93 : BitVec 32 := Scalar.muli v6 c2_i32_89
  let v94 : BitVec 32 := Scalar.addi c0_i32_90 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_91 : BitVec 32 := 1#32
  let v95 : BitVec 32 := Scalar.muli v5 c1_i32_91
  let v96 : BitVec 32 := Scalar.addi v94 v95
  v96.toNat
def k0_dev7 (d0 : Dev nD) : Nat :=
  let c0_i32_102 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_101 : BitVec 32 := 2#32
  let v105 : BitVec 32 := Scalar.muli v6 c2_i32_101
  let v106 : BitVec 32 := Scalar.addi c0_i32_102 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_103 : BitVec 32 := 1#32
  let v107 : BitVec 32 := Scalar.muli v5 c1_i32_103
  let v108 : BitVec 32 := Scalar.addi v106 v107
  v108.toNat
def k0_dev8 (d0 : Dev nD) : Nat :=
  let c0_i32_114 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_113 : BitVec 32 := 2#32
  let v117 : BitVec 32 := Scalar.muli v6 c2_i32_113
  let v118 : BitVec 32 := Scalar.addi c0_i32_114 v117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_115 : BitVec 32 := 1#32
  let v119 : BitVec 32 := Scalar.muli v5 c1_i32_115
  let v120 : BitVec 32 := Scalar.addi v118 v119
  v120.toNat
def k0_dev9 (d0 : Dev nD) : Nat :=
  let c0_i32_126 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_125 : BitVec 32 := 2#32
  let v129 : BitVec 32 := Scalar.muli v6 c2_i32_125
  let v130 : BitVec 32 := Scalar.addi c0_i32_126 v129
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_127 : BitVec 32 := 1#32
  let v131 : BitVec 32 := Scalar.muli v5 c1_i32_127
  let v132 : BitVec 32 := Scalar.addi v130 v131
  v132.toNat
def k0_dev10 (d0 : Dev nD) : Nat :=
  let c0_i32_138 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_137 : BitVec 32 := 2#32
  let v141 : BitVec 32 := Scalar.muli v6 c2_i32_137
  let v142 : BitVec 32 := Scalar.addi c0_i32_138 v141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_139 : BitVec 32 := 1#32
  let v143 : BitVec 32 := Scalar.muli v5 c1_i32_139
  let v144 : BitVec 32 := Scalar.addi v142 v143
  v144.toNat
def k0_off1 (d0 : Dev nD) : Fin 2 → Nat :=
  let c0_165 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v168 : BitVec 32 := Scalar.muli v5 c512_i32
  let v169 : Index := Scalar.indexCast v168
  ![0, v169.toNat]
def k0_off2 (d0 : Dev nD) : Fin 2 → Nat :=
  let c0_i32_172 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_166 : BitVec 32 := 512#32
  let v171 : BitVec 32 := Scalar.muli v5 c512_i32_166
  ![0, v171.toNat]
def k0_dev11 (d0 : Dev nD) : Nat :=
  let c0_i32_170 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_169 : BitVec 32 := 2#32
  let v172 : BitVec 32 := Scalar.muli v2 c2_i32_169
  let v173 : BitVec 32 := Scalar.addi c0_i32_170 v172
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_171 : BitVec 32 := 1#32
  let v174 : BitVec 32 := Scalar.muli v7 c1_i32_171
  let v175 : BitVec 32 := Scalar.addi v173 v174
  v175.toNat
def k0_off3 (d0 : Dev nD) : Fin 2 → Nat :=
  let c64_196 : Index := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_195 : BitVec 32 := 512#32
  let v197 : BitVec 32 := Scalar.muli v5 c512_i32_195
  let v198 : Index := Scalar.indexCast v197
  ![64, v198.toNat]
def k0_off4 (d0 : Dev nD) : Fin 2 → Nat :=
  let c64_i32 : BitVec 32 := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_197 : BitVec 32 := 512#32
  let v200 : BitVec 32 := Scalar.muli v5 c512_i32_197
  ![64, v200.toNat]
def k0_dev12 (d0 : Dev nD) : Nat :=
  let c0_i32_201 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_200 : BitVec 32 := 2#32
  let v201 : BitVec 32 := Scalar.muli v2 c2_i32_200
  let v202 : BitVec 32 := Scalar.addi c0_i32_201 v201
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_202 : BitVec 32 := 1#32
  let v203 : BitVec 32 := Scalar.muli v7 c1_i32_202
  let v204 : BitVec 32 := Scalar.addi v202 v203
  v204.toNat
def k0_off5 (d0 : Dev nD) : Fin 2 → Nat :=
  let c128_226 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_225 : BitVec 32 := 512#32
  let v226 : BitVec 32 := Scalar.muli v5 c512_i32_225
  let v227 : Index := Scalar.indexCast v226
  ![128, v227.toNat]
def k0_off6 (d0 : Dev nD) : Fin 2 → Nat :=
  let c128_i32 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_227 : BitVec 32 := 512#32
  let v229 : BitVec 32 := Scalar.muli v5 c512_i32_227
  ![128, v229.toNat]
def k0_dev13 (d0 : Dev nD) : Nat :=
  let c0_i32_231 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_230 : BitVec 32 := 2#32
  let v230 : BitVec 32 := Scalar.muli v2 c2_i32_230
  let v231 : BitVec 32 := Scalar.addi c0_i32_231 v230
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_232 : BitVec 32 := 1#32
  let v232 : BitVec 32 := Scalar.muli v7 c1_i32_232
  let v233 : BitVec 32 := Scalar.addi v231 v232
  v233.toNat
def k0_off7 (d0 : Dev nD) : Fin 2 → Nat :=
  let c192_256 : Index := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_255 : BitVec 32 := 512#32
  let v255 : BitVec 32 := Scalar.muli v5 c512_i32_255
  let v256 : Index := Scalar.indexCast v255
  ![192, v256.toNat]
def k0_off8 (d0 : Dev nD) : Fin 2 → Nat :=
  let c192_i32 : BitVec 32 := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_257 : BitVec 32 := 512#32
  let v258 : BitVec 32 := Scalar.muli v5 c512_i32_257
  ![192, v258.toNat]
def k0_dev14 (d0 : Dev nD) : Nat :=
  let c0_i32_261 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_260 : BitVec 32 := 2#32
  let v259 : BitVec 32 := Scalar.muli v2 c2_i32_260
  let v260 : BitVec 32 := Scalar.addi c0_i32_261 v259
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_262 : BitVec 32 := 1#32
  let v261 : BitVec 32 := Scalar.muli v7 c1_i32_262
  let v262 : BitVec 32 := Scalar.addi v260 v261
  v262.toNat
def k0_off9 (d0 : Dev nD) : Fin 2 → Nat :=
  let c256_286 : Index := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_285 : BitVec 32 := 512#32
  let v284 : BitVec 32 := Scalar.muli v5 c512_i32_285
  let v285 : Index := Scalar.indexCast v284
  ![256, v285.toNat]
def k0_off10 (d0 : Dev nD) : Fin 2 → Nat :=
  let c256_i32 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_287 : BitVec 32 := 512#32
  let v287 : BitVec 32 := Scalar.muli v5 c512_i32_287
  ![256, v287.toNat]
def k0_dev15 (d0 : Dev nD) : Nat :=
  let c0_i32_291 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_290 : BitVec 32 := 2#32
  let v288 : BitVec 32 := Scalar.muli v2 c2_i32_290
  let v289 : BitVec 32 := Scalar.addi c0_i32_291 v288
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_292 : BitVec 32 := 1#32
  let v290 : BitVec 32 := Scalar.muli v7 c1_i32_292
  let v291 : BitVec 32 := Scalar.addi v289 v290
  v291.toNat
def k0_off11 (d0 : Dev nD) : Fin 2 → Nat :=
  let c320_316 : Index := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_315 : BitVec 32 := 512#32
  let v313 : BitVec 32 := Scalar.muli v5 c512_i32_315
  let v314 : Index := Scalar.indexCast v313
  ![320, v314.toNat]
def k0_off12 (d0 : Dev nD) : Fin 2 → Nat :=
  let c320_i32 : BitVec 32 := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_317 : BitVec 32 := 512#32
  let v316 : BitVec 32 := Scalar.muli v5 c512_i32_317
  ![320, v316.toNat]
def k0_dev16 (d0 : Dev nD) : Nat :=
  let c0_i32_321 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_320 : BitVec 32 := 2#32
  let v317 : BitVec 32 := Scalar.muli v2 c2_i32_320
  let v318 : BitVec 32 := Scalar.addi c0_i32_321 v317
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_322 : BitVec 32 := 1#32
  let v319 : BitVec 32 := Scalar.muli v7 c1_i32_322
  let v320 : BitVec 32 := Scalar.addi v318 v319
  v320.toNat
def k0_off13 (d0 : Dev nD) : Fin 2 → Nat :=
  let c384_346 : Index := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_345 : BitVec 32 := 512#32
  let v342 : BitVec 32 := Scalar.muli v5 c512_i32_345
  let v343 : Index := Scalar.indexCast v342
  ![384, v343.toNat]
def k0_off14 (d0 : Dev nD) : Fin 2 → Nat :=
  let c384_i32 : BitVec 32 := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_347 : BitVec 32 := 512#32
  let v345 : BitVec 32 := Scalar.muli v5 c512_i32_347
  ![384, v345.toNat]
def k0_dev17 (d0 : Dev nD) : Nat :=
  let c0_i32_351 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_350 : BitVec 32 := 2#32
  let v346 : BitVec 32 := Scalar.muli v2 c2_i32_350
  let v347 : BitVec 32 := Scalar.addi c0_i32_351 v346
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_352 : BitVec 32 := 1#32
  let v348 : BitVec 32 := Scalar.muli v7 c1_i32_352
  let v349 : BitVec 32 := Scalar.addi v347 v348
  v349.toNat
def k0_off15 (d0 : Dev nD) : Fin 2 → Nat :=
  let c448_376 : Index := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_375 : BitVec 32 := 512#32
  let v371 : BitVec 32 := Scalar.muli v5 c512_i32_375
  let v372 : Index := Scalar.indexCast v371
  ![448, v372.toNat]
def k0_off16 (d0 : Dev nD) : Fin 2 → Nat :=
  let c448_i32 : BitVec 32 := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_377 : BitVec 32 := 512#32
  let v374 : BitVec 32 := Scalar.muli v5 c512_i32_377
  ![448, v374.toNat]
def k0_dev18 (d0 : Dev nD) : Nat :=
  let c0_i32_381 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_380 : BitVec 32 := 2#32
  let v375 : BitVec 32 := Scalar.muli v2 c2_i32_380
  let v376 : BitVec 32 := Scalar.addi c0_i32_381 v375
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_382 : BitVec 32 := 1#32
  let v377 : BitVec 32 := Scalar.muli v7 c1_i32_382
  let v378 : BitVec 32 := Scalar.addi v376 v377
  v378.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S2x512x1024 : Shape := ⟨3, ![2, 512, 1024]⟩
abbrev S_ : Shape := ⟨0, ![]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S2x512x1024, .bf16⟩
  | .hbm, ⟨2, _⟩ => ⟨S2x512x1024, .f32⟩
  | .hbm, ⟨3, _⟩ => ⟨S_, .f32⟩
  | .hbm, ⟨4, _⟩ => ⟨S512x1024, .f32⟩
  | .hbm, ⟨5, _⟩ => ⟨S512x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Grid.lean ====
/-
The 2 × 2 mesh of the kernel: who each device's two neighbours are, and that the device numbers and
the column offsets the kernel computes are these.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.PlaneSum

open Cert.KernelIdeal Cert.KernelIdeal.Gen
open Idealize.ShloMosaic Idealize.ShloMosaic.TcCoe

/-! ## Neighbours: device `2 r + h` sits at row `r`, column `h` -/

/-- The device of the other row in the same column. -/
def across (c : Dev nD) : Dev nD := ⟨(c.val + 2) % 4, Nat.mod_lt _ (by decide)⟩

/-- The device of the same row in column `h`. -/
def inRow (c : Dev nD) (h : Fin 2) : Dev nD := ⟨c.val / 2 * 2 + h.val, by revert c h; decide⟩

/-- The column a device sits in. -/
def col (c : Dev nD) : Fin 2 := ⟨c.val % 2, Nat.mod_lt _ (by decide)⟩

/-- The device of the same row in the other column. -/
def beside (c : Dev nD) : Dev nD := inRow c (col c).rev

theorem across_across (c : Dev nD) : across (across c) = c := by revert c; decide
theorem beside_beside (c : Dev nD) : beside (beside c) = c := by revert c; decide
theorem col_beside (c : Dev nD) : col (beside c) = (col c).rev := by revert c; decide
theorem inRow_col (c : Dev nD) : inRow c (col c) = c := by revert c; decide
theorem inRow_beside (c : Dev nD) : inRow (beside c) = inRow c := by revert c; decide
theorem across_ne_beside (c : Dev nD) : across c ≠ beside c := by revert c; decide

/-- Swapping the rows, as a permutation of the devices. -/
def acrossEquiv : Dev nD ≃ Dev nD := ⟨across, across, across_across, across_across⟩
/-- Swapping the columns, as a permutation of the devices. -/
def besideEquiv : Dev nD ≃ Dev nD := ⟨beside, beside, beside_beside, beside_beside⟩

/-! ## What the kernel computes from its device number -/

/-- Where chunk `k` of the result's half `h` starts. -/
abbrev outOff (k : Fin 8) (h : Fin 2) : Fin 2 → Nat := ![64 * k.val, 512 * h.val]

section Printed
variable (c : Dev nD)

theorem dev1 : (⟨k0_dev1 c, k0_dev1_lt c⟩ : Dev nD) = across c := by revert c; decide +kernel
theorem dev2 : (⟨k0_dev2 c, k0_dev2_lt c⟩ : Dev nD) = beside c := by revert c; decide +kernel
theorem dev3 : (⟨k0_dev3 c, k0_dev3_lt c⟩ : Dev nD) = across c := by revert c; decide +kernel
theorem dev4 : (⟨k0_dev4 c, k0_dev4_lt c⟩ : Dev nD) = across c := by revert c; decide +kernel
theorem dev5 : (⟨k0_dev5 c, k0_dev5_lt c⟩ : Dev nD) = across c := by revert c; decide +kernel
theorem dev6 : (⟨k0_dev6 c, k0_dev6_lt c⟩ : Dev nD) = across c := by revert c; decide +kernel
theorem dev7 : (⟨k0_dev7 c, k0_dev7_lt c⟩ : Dev nD) = across c := by revert c; decide +kernel
theorem dev8 : (⟨k0_dev8 c, k0_dev8_lt c⟩ : Dev nD) = across c := by revert c; decide +kernel
theorem dev9 : (⟨k0_dev9 c, k0_dev9_lt c⟩ : Dev nD) = across c := by revert c; decide +kernel
theorem dev10 : (⟨k0_dev10 c, k0_dev10_lt c⟩ : Dev nD) = across c := by revert c; decide +kernel
theorem dev11 : (⟨k0_dev11 c, k0_dev11_lt c⟩ : Dev nD) = beside c := by revert c; decide +kernel
theorem dev12 : (⟨k0_dev12 c, k0_dev12_lt c⟩ : Dev nD) = beside c := by revert c; decide +kernel
theorem dev13 : (⟨k0_dev13 c, k0_dev13_lt c⟩ : Dev nD) = beside c := by revert c; decide +kernel
theorem dev14 : (⟨k0_dev14 c, k0_dev14_lt c⟩ : Dev nD) = beside c := by revert c; decide +kernel
theorem dev15 : (⟨k0_dev15 c, k0_dev15_lt c⟩ : Dev nD) = beside c := by revert c; decide +kernel
theorem dev16 : (⟨k0_dev16 c, k0_dev16_lt c⟩ : Dev nD) = beside c := by revert c; decide +kernel
theorem dev17 : (⟨k0_dev17 c, k0_dev17_lt c⟩ : Dev nD) = beside c := by revert c; decide +kernel
theorem dev18 : (⟨k0_dev18 c, k0_dev18_lt c⟩ : Dev nD) = beside c := by revert c; decide +kernel

theorem off1 : k0_off1 c = outOff 0 (col c) := by revert c; decide +kernel
theorem off2 : k0_off2 c = outOff 0 (col c) := by revert c; decide +kernel
theorem off3 : k0_off3 c = outOff 1 (col c) := by revert c; decide +kernel
theorem off4 : k0_off4 c = outOff 1 (col c) := by revert c; decide +kernel
theorem off5 : k0_off5 c = outOff 2 (col c) := by revert c; decide +kernel
theorem off6 : k0_off6 c = outOff 2 (col c) := by revert c; decide +kernel
theorem off7 : k0_off7 c = outOff 3 (col c) := by revert c; decide +kernel
theorem off8 : k0_off8 c = outOff 3 (col c) := by revert c; decide +kernel
theorem off9 : k0_off9 c = outOff 4 (col c) := by revert c; decide +kernel
theorem off10 : k0_off10 c = outOff 4 (col c) := by revert c; decide +kernel
theorem off11 : k0_off11 c = outOff 5 (col c) := by revert c; decide +kernel
theorem off12 : k0_off12 c = outOff 5 (col c) := by revert c; decide +kernel
theorem off13 : k0_off13 c = outOff 6 (col c) := by revert c; decide +kernel
theorem off14 : k0_off14 c = outOff 6 (col c) := by revert c; decide +kernel
theorem off15 : k0_off15 c = outOff 7 (col c) := by revert c; decide +kernel
theorem off16 : k0_off16 c = outOff 7 (col c) := by revert c; decide +kernel

end Printed

end Cert.PlaneSum

end
-- ==== Proof.Pieces.lean ====
/-
The pieces the kernel moves, and what they hold. The scratch buffer has two planes of eight
64-row chunks: the device's own block and the one its neighbour across sends. The result buffer has
eight chunks of 64 rows in two halves of 512 columns, one for each column of the mesh.
-/
module

public import proofs.«01_k».proof.Proof.Grid
public import Idealize.ShloMosaic.Lib.Pipeline.Value

@[expose] public section

noncomputable section

namespace Cert.PlaneSum

open Cert.KernelIdeal Cert.KernelIdeal.Gen
open Idealize.ShloMosaic Idealize.ShloMosaic.TcCoe

variable {F : FTy → Type} [FloatOps F]

/-! ## Rectangles and memrefs -/

/-- The block of `x`, the result and the scratch of a device. -/
abbrev xM : Memref sig .tc .vmem S512x512 .bf16 := Memref.whole cc0_stg0_0
abbrev outM : Memref sig .tc .vmem S512x1024 .bf16 := Memref.whole cc0_stg1_0
abbrev scrM : Memref sig .tc .vmem S2x8x64x512 .bf16 := Memref.whole cc0_scratch0

/-- Where chunk `k` of plane `s` of the scratch starts. -/
abbrev scrOff (s : Fin 2) (k : Fin 8) : Fin 4 → Nat := ![s.val, k.val, 0, 0]
/-- Where chunk `k` of the block starts. -/
abbrev xOff (k : Fin 8) : Fin 2 → Nat := ![64 * k.val, 0]

theorem scrOff_inb (s : Fin 2) (k : Fin 8) : ∀ a, scrOff s k a + S1x1x64x512.size a ≤ S2x8x64x512.size a := by revert s k; decide
theorem xOff_inb (k : Fin 8) : ∀ a, xOff k a + S64x512.size a ≤ S512x512.size a := by revert k; decide
theorem outOff_inb (k : Fin 8) (h : Fin 2) : ∀ a, outOff k h a + S64x512.size a ≤ S512x1024.size a := by revert k h; decide

/-- Chunk `k` of plane `s`; chunk `k` of the block; chunk `k` of half `h` of the result. -/
abbrev scrR (s : Fin 2) (k : Fin 8) : Rect S2x8x64x512 := Rect.unit (scrOff s k) S1x1x64x512.size (scrOff_inb s k)
abbrev xR (k : Fin 8) : Rect S512x512 := Rect.unit (xOff k) S64x512.size (xOff_inb k)
abbrev outR (k : Fin 8) (h : Fin 2) : Rect S512x1024 := Rect.unit (outOff k h) S64x512.size (outOff_inb k h)

/-- The chunk as a transfer names it: two unit axes dropped. -/
abbrev scrV (s : Fin 2) (k : Fin 8) : Memref sig .tc .vmem S64x512 .bf16 :=
  (scrM.slice (scrR s k) (fun _ => rfl)).squeeze S64x512 squeezes_S1x1x64x512_S64x512
abbrev outV (k : Fin 8) (h : Fin 2) : Memref sig .tc .vmem S64x512 .bf16 := outM.slice (outR k h) (fun _ => rfl)

theorem scrV_set (s : Fin 2) (k : Fin 8) : (scrV s k).view.set = (scrR s k).set :=
  (View.set_reshape _ _).trans (View.set_slice_whole cc0_scratch0 (scrR s k))
theorem scrA_set (s : Fin 2) (k : Fin 8) : ((View.whole cc0_scratch0).slice (scrR s k)).set = (scrR s k).set := View.set_slice_whole cc0_scratch0 (scrR s k)
theorem outV_set (k : Fin 8) (h : Fin 2) : (outV k h).view.set = (outR k h).set := by
  show ((View.whole cc0_stg1_0).slice (outR k h)).set = _
  exact View.set_slice_whole _ _

/-! ## The pieces are disjoint and make up the buffers -/

theorem scr_disjoint (p q : Fin 2 × Fin 8) (h : p ≠ q) : Disjoint (scrR p.1 p.2).set (scrR q.1 q.2).set := by
  by_cases h1 : p.1.val = q.1.val
  · have h2 : p.2.val ≠ q.2.val := fun h2 => h (Prod.ext (Fin.ext h1) (Fin.ext h2))
    exact Rect.unit_disjoint 1 (show p.2.val + 1 ≤ q.2.val ∨ q.2.val + 1 ≤ p.2.val by omega)
  · exact Rect.unit_disjoint 0 (show p.1.val + 1 ≤ q.1.val ∨ q.1.val + 1 ≤ p.1.val by omega)

theorem scr_cover : Finset.univ.biUnion (fun p : Fin 2 × Fin 8 => (scrR p.1 p.2).set) = Finset.univ := by
  ext i
  simp only [Finset.mem_biUnion, Finset.mem_univ, true_and, iff_true]
  have h0 : (i 0).val < 2 := (i 0).isLt
  have h1 : (i 1).val < 8 := (i 1).isLt
  have h2 : (i 2).val < 64 := (i 2).isLt
  have h3 : (i 3).val < 512 := (i 3).isLt
  refine ⟨(⟨(i 0).val, h0⟩, ⟨(i 1).val, h1⟩), Rect.mem_set_unit.mpr fun a => ?_⟩
  fin_cases a
  · exact ⟨le_refl _, Nat.lt_succ_self _⟩
  · exact ⟨le_refl _, Nat.lt_succ_self _⟩
  · exact ⟨Nat.zero_le _, by change (i 2).val < 0 + 64; omega⟩
  · exact ⟨Nat.zero_le _, by change (i 3).val < 0 + 512; omega⟩

theorem out_disjoint (p q : Fin 2 × Fin 8) (h : p ≠ q) : Disjoint (outR p.2 p.1).set (outR q.2 q.1).set := by
  by_cases h1 : p.1.val = q.1.val
  · have h2 : p.2.val ≠ q.2.val := fun h2 => h (Prod.ext (Fin.ext h1) (Fin.ext h2))
    exact Rect.unit_disjoint 0 (show 64 * p.2.val + 64 ≤ 64 * q.2.val ∨ 64 * q.2.val + 64 ≤ 64 * p.2.val by omega)
  · exact Rect.unit_disjoint 1 (show 512 * p.1.val + 512 ≤ 512 * q.1.val ∨ 512 * q.1.val + 512 ≤ 512 * p.1.val by omega)

theorem out_cover : Finset.univ.biUnion (fun p : Fin 2 × Fin 8 => (outR p.2 p.1).set) = Finset.univ := by
  ext i
  simp only [Finset.mem_biUnion, Finset.mem_univ, true_and, iff_true]
  have h0 : (i 0).val < 512 := (i 0).isLt
  have h1 : (i 1).val < 1024 := (i 1).isLt
  refine ⟨(⟨(i 1).val / 512, by omega⟩, ⟨(i 0).val / 64, by omega⟩), Rect.mem_set_unit.mpr fun a => ?_⟩
  fin_cases a
  · exact ⟨by change 64 * ((i 0).val / 64) ≤ (i 0).val; omega, by change (i 0).val < 64 * ((i 0).val / 64) + 64; omega⟩
  · exact ⟨by change 512 * ((i 1).val / 512) ≤ (i 1).val; omega, by change (i 1).val < 512 * ((i 1).val / 512) + 512; omega⟩

/-! ## Contents -/

/-- A block of `x`. -/
abbrev Block (F : FTy → Type) : Type := S512x512.Idx → Elt F .bf16

/-- The entry of a block in row `r` and column `j`, both taken modulo 512. -/
def at2 (r j : ℕ) : S512x512.Idx := fun a => match a with
  | ⟨0, _⟩ => ⟨r % 512, Nat.mod_lt _ (by decide)⟩
  | ⟨1, _⟩ => ⟨j % 512, Nat.mod_lt _ (by decide)⟩

variable (X : Dev nD → Block F)

/-- The scratch of device `c` once both planes are in: its own block in plane 0, the block across in plane 1. -/
def scrF (c : Dev nD) : S2x8x64x512.Idx → Elt F .bf16 := fun i =>
  X (if (i 0).val = 0 then c else across c) (at2 (64 * (i 1).val + (i 2).val) (i 3).val)

/-- The sum of device `d`'s block and the one across, in that order. -/
def pairSum (d : Dev nD) : FVec F S512x512 .bf16 := addf (X d) (X (across d))

/-- The result of device `c`: its half `h` is the pair sum computed by the device of its row in column `h`. -/
def outF (c : Dev nD) : S512x1024.Idx → Elt F .bf16 := fun i =>
  pairSum X (inRow c ⟨(i 1).val / 512 % 2, Nat.mod_lt _ (by decide)⟩) (at2 (i 0).val (i 1).val)

omit [FloatOps F] in
/-- What crosses: plane 0 of a device is plane 1 of the one across. -/
theorem scrF_across (c : Dev nD) (k : Fin 8) (y : S1x1x64x512.Idx) :
    scrF X c ((scrR 0 k).emb y) = scrF X (across c) ((scrR 1 k).emb y) := by
  have h0 : (y 0).val = 0 := by have : (y 0).val < 1 := (y 0).isLt; omega
  unfold scrF
  rw [if_pos (show ((scrR 0 k).emb y 0).val = 0 by change 0 + 1 * (y 0).val = 0; omega),
    if_neg (show ¬ ((scrR 1 k).emb y 0).val = 0 by change ¬ 1 + 1 * (y 0).val = 0; omega), across_across]
  rfl

/-- The two devices of a row end with the same result. -/
theorem outF_beside (c : Dev nD) : outF X (beside c) = outF X c := by
  unfold outF; rw [inRow_beside]

end Cert.PlaneSum

end
-- ==== Proof.Moves.lean ====
/-
What each move of the kernel leaves in the piece it writes: the store of a chunk into the scratch, its
transfer across, the sum stored into the result, and the transfer of that sum to the device beside.
-/
module

public import proofs.«01_k».proof.Proof.Pieces

@[expose] public section

noncomputable section

namespace Cert.PlaneSum

open Cert.KernelIdeal Cert.KernelIdeal.Gen
open Idealize.ShloMosaic Idealize.ShloMosaic.TcCoe

variable {F : FTy → Type} [FloatOps F] (X : Dev nD → Block F)

/-- Every element of a rectangle is the place of one of the rectangle's own indices. -/
theorem exists_emb {s : Shape} {r : Rect s} {i : s.Idx} (h : i ∈ r.set) : ∃ y, r.emb y = i := by
  rw [← Rect.map_emb_univ] at h
  obtain ⟨y, -, hy⟩ := Finset.mem_map.mp h
  exact ⟨y, hy⟩

/-- A chunk of the scratch read at `y` once its two unit axes are dropped. -/
def unsq (y : S64x512.Idx) : S1x1x64x512.Idx := fun a => match a with
  | ⟨0, _⟩ => ⟨0, Nat.one_pos⟩
  | ⟨1, _⟩ => ⟨0, Nat.one_pos⟩
  | ⟨2, _⟩ => y 0
  | ⟨3, _⟩ => y 1

/-- A chunk of two axes read at the last two coordinates of `y`. -/
def sq (y : S1x1x64x512.Idx) : S64x512.Idx := fun a => match a with
  | ⟨0, _⟩ => y 2
  | ⟨1, _⟩ => y 3

theorem cast_unsq {α : Type} (v : S1x1x64x512.Idx → α) (h : S1x1x64x512.ShapeCasts S64x512) (y : S64x512.Idx) :
    shapeCast S64x512 v h y = v (unsq y) := by
  refine shapeCast_apply v h y (unsq y) ?_
  rw [Shape.rowMajor_val_four, Shape.rowMajor_val_two]
  change (((0 * 1 + 0) * 64 + (y 0).val) * 512 + (y 1).val) = (y 0).val * 512 + (y 1).val
  omega

theorem cast_sq {α : Type} (v : S64x512.Idx → α) (h : S64x512.ShapeCasts S1x1x64x512) (y : S1x1x64x512.Idx) :
    shapeCast S1x1x64x512 v h y = v (sq y) := by
  refine shapeCast_apply v h y (sq y) ?_
  rw [Shape.rowMajor_val_four, Shape.rowMajor_val_two]
  have h0 : (y 0).val < 1 := (y 0).isLt
  have h1 : (y 1).val < 1 := (y 1).isLt
  change (y 2).val * 512 + (y 3).val = (((y 0).val * 1 + (y 1).val) * 64 + (y 2).val) * 512 + (y 3).val
  omega

omit [FloatOps F] in
/-- Plane 0 of the scratch of device `c`, chunk `k`, is chunk `k` of its own block. -/
theorem scrF_own (c : Dev nD) (k : Fin 8) (y : S1x1x64x512.Idx) : scrF X c ((scrR 0 k).emb y) = X c ((xR k).emb (sq y)) := by
  have h0 : (y 0).val < 1 := (y 0).isLt
  have h1 : (y 1).val < 1 := (y 1).isLt
  have h2 : (y 2).val < 64 := (y 2).isLt
  have h3 : (y 3).val < 512 := (y 3).isLt
  have hk := k.isLt
  unfold scrF
  rw [if_pos (show ((scrR 0 k).emb y 0).val = 0 by change 0 + 1 * (y 0).val = 0; omega)]
  congr 1
  funext a
  apply Fin.ext
  fin_cases a
  · change (64 * (k.val + 1 * (y 1).val) + (0 + 1 * (y 2).val)) % 512 = 64 * k.val + 1 * (y 2).val
    omega
  · change (0 + 1 * (y 3).val) % 512 = 0 + 1 * (y 3).val
    omega

/-- Storing chunk `k` of its block, device `c` has plane 0 of the scratch right there. -/
theorem stored (c : Dev nD) (k : Fin 8) (f : S2x8x64x512.Idx → Elt F .bf16) :
    ∀ i ∈ (scrR 0 k).set, ((scrM.access (scrR 0 k) : View sig .tc _ _ _).write (Elt F) f
      (k0_pay1 (xM.view.readAt (Elt F) (xR k).toLoadRect (X c))) Finset.univ) i = scrF X c i := by
  intro i hi
  obtain ⟨y, rfl⟩ := exists_emb hi
  refine (View.write_emb_of_mem (v := (scrM.access (scrR 0 k) : View sig .tc _ _ _)) (Val := Elt F) f _ (Finset.mem_univ y)).trans ?_
  rw [scrF_own]
  refine (cast_eq _ _).trans ?_
  unfold k0_pay1
  rw [cast_sq, shapeCast_self]
  rfl

omit [FloatOps F] in
/-- The transfer of chunk `k` from plane 0 of device `c` leaves plane 1 of the device across right there. -/
theorem crossed (c : Dev nD) (k : Fin 8) (f : S2x8x64x512.Idx → Elt F .bf16) :
    ∀ i ∈ (scrR 1 k).set, ((scrV 1 k).view.write (Elt F) f ((scrV 0 k).view.read (Elt F) (scrF X c)) Finset.univ) i = scrF X (across c) i := by
  intro i hi
  rw [← scrV_set] at hi
  obtain ⟨y, -, rfl⟩ := Finset.mem_map.mp hi
  refine (View.write_emb_of_mem (v := (scrV 1 k).view) (Val := Elt F) f _ (Finset.mem_univ y)).trans ?_
  exact scrF_across X c k _

/-- The sum of the two planes stored at the device's own column leaves the result right there. -/
theorem summed (c : Dev nD) (k : Fin 8) (f : S512x1024.Idx → Elt F .bf16) :
    ∀ i ∈ (outR k (col c)).set, ((outM.access (outR k (col c)) : View sig .tc _ _ _).write (Elt F) f
      (k0_pay10 (scrM.view.readAt (Elt F) (scrR 0 k).toLoadRect (scrF X c)) (scrM.view.readAt (Elt F) (scrR 1 k).toLoadRect (scrF X c)))
        Finset.univ) i = outF X c i := by
  intro i hi
  obtain ⟨y, rfl⟩ := exists_emb hi
  refine (View.write_emb_of_mem (v := (outM.access (outR k (col c)) : View sig .tc _ _ _)) (Val := Elt F) f _ (Finset.mem_univ y)).trans ?_
  refine (cast_eq _ _).trans ?_
  unfold k0_pay10
  show FloatOps.addf (shapeCast S64x512 _ _ y) (shapeCast S64x512 _ _ y) = _
  rw [cast_unsq, cast_unsq]
  have e0 : scrM.view.readAt (Elt F) (scrR 0 k).toLoadRect (scrF X c) (unsq y) = X c ((xR k).emb y) :=
    (scrF_own X c k (unsq y)).trans (congrArg (fun z => X c ((xR k).emb z)) (by funext a; fin_cases a <;> rfl))
  have e1 : scrM.view.readAt (Elt F) (scrR 1 k).toLoadRect (scrF X c) (unsq y) = X (across c) ((xR k).emb y) := by
    have h := scrF_across X (across c) k (unsq y)
    rw [across_across, scrF_own] at h
    exact h.symm.trans (congrArg (fun z => X (across c) ((xR k).emb z)) (by funext a; fin_cases a <;> rfl))
  rw [e0, e1]
  have h0 : (y 0).val < 64 := (y 0).isLt
  have h1 : (y 1).val < 512 := (y 1).isLt
  have hk := k.isLt
  have hc := (col c).isLt
  have ec : (⟨((outR k (col c)).emb y 1).val / 512 % 2, Nat.mod_lt _ (by decide)⟩ : Fin 2) = col c := by
    apply Fin.ext
    change (512 * (col c).val + 1 * (y 1).val) / 512 % 2 = (col c).val
    omega
  have ei : (xR k).emb y = at2 ((outR k (col c)).emb y 0).val ((outR k (col c)).emb y 1).val := by
    funext a
    apply Fin.ext
    fin_cases a
    · change 64 * k.val + 1 * (y 0).val = (64 * k.val + 1 * (y 0).val) % 512
      omega
    · change 0 + 1 * (y 1).val = (512 * (col c).val + 1 * (y 1).val) % 512
      omega
  unfold outF
  rw [ec, inRow_col, ← ei]
  rfl

omit [FloatOps F] in
/-- The transfer of a chunk of the result leaves at its destination what it held at its source. -/
theorem shared (k : Fin 8) (h : Fin 2) (f g : S512x1024.Idx → Elt F .bf16) :
    ∀ i ∈ (outR k h).set, ((outV k h).view.write (Elt F) f ((outV k h).view.read (Elt F) g) Finset.univ) i = g i := by
  intro i hi
  rw [← outV_set] at hi
  obtain ⟨y, -, rfl⟩ := Finset.mem_map.mp hi
  exact (View.write_emb_of_mem (v := (outV k h).view) (Val := Elt F) f _ (Finset.mem_univ y)).trans rfl

end Cert.PlaneSum

end
-- ==== Proof.Protocol.lean ====
/-
The protocol of the kernel's semaphores. Each device has a barrier cell, signalled once by each of its
two neighbours, and four transfer cells for every chunk, each credited once: sending across, receiving
from across, sending beside, receiving from beside.

A signal hands over the memory its sender lets the signalled device write: the neighbour across gives
plane 1 of its scratch, the neighbour beside gives the half of its result the signalled device
computes. A transfer hands its source back to the sender and its destination to the receiver.
-/
module

public import proofs.«01_k».proof.Proof.Moves
public import Idealize.ShloMosaic.Lib.Pipeline.Launch
public import Idealize.ShloMosaic.Lib.Pipeline.Kit
public import Idealize.ShloMosaic.Lib.Tactic

@[expose] public section

noncomputable section

namespace Cert.PlaneSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the kernel's own -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- What a transfer cell is for. -/
abbrev sendAcross : Fin 4 := 0
abbrev recvAcross : Fin 4 := 1
abbrev sendBeside : Fin 4 := 2
abbrev recvBeside : Fin 4 := 3

/-- The semaphore of chunk `k` in role `a`. -/
def dsem (a : Fin 4) (k : Fin 8) : DmaSem sig := ⟨2 + 8 * a.val + k.val, by revert a k; decide⟩

abbrev barC (c : Dev nD) : GSem nD τ sig := ((c : Thread nD τ), .reg barrier0)
abbrev xferC (a : Fin 4) (c : Dev nD) (k : Fin 8) : GSem nD τ sig := ((c : Thread nD τ), .dma (dsem a k))

/-- A device's cells: its barrier cell (`none`) and its transfer cells. -/
abbrev Slot : Type := Option (Fin 4 × Fin 8)
abbrev slotSem : Slot → SemLoc sig
  | none => .reg barrier0
  | some (a, k) => .dma (dsem a k)
abbrev cell (p : Dev nD × Slot) : GSem nD τ sig := ((p.1 : Thread nD τ), slotSem p.2)

theorem dsem_role (a : Fin 4) (k : Fin 8) : ((dsem a k).val - 2) / 8 = a.val := by
  have := a.isLt; have := k.isLt; show (2 + 8 * a.val + k.val - 2) / 8 = a.val; omega
theorem dsem_chunk (a : Fin 4) (k : Fin 8) : ((dsem a k).val - 2) % 8 = k.val := by
  have := a.isLt; have := k.isLt; show (2 + 8 * a.val + k.val - 2) % 8 = k.val; omega
theorem two_le_dsem (a : Fin 4) (k : Fin 8) : 2 ≤ (dsem a k).val := by
  show 2 ≤ 2 + 8 * a.val + k.val; omega
theorem dsem_inj {a a' : Fin 4} {k k' : Fin 8} (h : dsem a k = dsem a' k') : a = a' ∧ k = k' :=
  ⟨Fin.ext (by rw [← dsem_role a k, h, dsem_role]), Fin.ext (by rw [← dsem_chunk a k, h, dsem_chunk])⟩

theorem slotSem_injective : Function.Injective slotSem := by
  intro s t h
  match s, t, h with
  | none, none, _ => rfl
  | some (a, k), some (a', k'), h =>
    obtain ⟨h1, h2⟩ := dsem_inj (SemLoc.dma.inj h)
    rw [h1, h2]

theorem cell_injective : Function.Injective cell := by
  rintro ⟨c, s⟩ ⟨c', s'⟩ h
  have h1 : c = c' := congrArg (fun g : GSem nD τ sig => g.1.1) h
  have h2 : slotSem s = slotSem s' := congrArg Prod.snd h
  rw [h1, slotSem_injective h2]

/-! ## The memory that changes hands -/

variable (X : Dev nD → Block F)

/-- Chunk `k` of plane `s` of device `c`'s scratch, at share `q`. -/
def scrPt (c : Dev nD) (s : Fin 2) (k : Fin 8) (q : PosShare TreeShare) (f : Buf (Elt F) ((c : Thread nD τ).loc cc0_scratch0)) : sProp 𝕄 :=
  ((c : Thread nD τ).loc cc0_scratch0) ↦[(scrR s k).set]{q} f
/-- Chunk `k` of half `h` of device `c`'s result. -/
def outPt (c : Dev nD) (k : Fin 8) (h : Fin 2) (f : Buf (Elt F) ((c : Thread nD τ).loc cc0_stg1_0)) : sProp 𝕄 :=
  ((c : Thread nD τ).loc cc0_stg1_0) ↦[(outR k h).set]{fullShare} f

omit [FloatOps F] in
instance scrPt_storable (c : Dev nD) (s : Fin 2) (k : Fin 8) (q) (f) : BI.Storable (upEmb : UEmb _ 𝕄) (scrPt (F := F) c s k q f) := by unfold scrPt; infer_instance
omit [FloatOps F] in
instance outPt_storable (c : Dev nD) (k : Fin 8) (h : Fin 2) (f) : BI.Storable (upEmb : UEmb _ 𝕄) (outPt (F := F) c k h f) := by unfold outPt; infer_instance

/-- Room for what device `c` sends across, and for what it sends beside. -/
def roomAcross (c : Dev nD) (k : Fin 8) : sProp 𝕄 := iprop(∃ f, scrPt (across c) 1 k fullShare f)
def roomBeside (c : Dev nD) (k : Fin 8) : sProp 𝕄 := iprop(∃ f, outPt (beside c) k (col c) f)

/-- What a signal of device `c`'s barrier hands it: `false` from across, `true` from beside. -/
def barPay (c : Dev nD) : Bool → sProp 𝕄
  | false => bigSep Finset.univ fun k => roomAcross c k
  | true => bigSep Finset.univ fun k => roomBeside c k

/-- What the transfers of chunk `k` hand device `c`, by role. -/
def xferPay (c : Dev nD) : ℕ → Fin 8 → sProp 𝕄
  | 0, k => scrPt c 0 k fullShare.right (scrF X c)
  | 1, k => scrPt c 1 k fullShare (scrF X c)
  | 2, k => outPt c k (col c) (outF X c)
  | 3, k => outPt c k (col c).rev (outF X c)
  | _, _ => iprop(emp)

omit [FloatOps F] in
instance barPay_storable (c : Dev nD) (d : Bool) : BI.Storable (upEmb : UEmb _ 𝕄) (barPay (F := F) c d) := by
  cases d <;> (unfold barPay roomAcross roomBeside; infer_instance)
instance xferPay_storable (c : Dev nD) (a : ℕ) (k : Fin 8) : BI.Storable (upEmb : UEmb _ 𝕄) (xferPay X c a k) := by
  unfold xferPay; split <;> infer_instance

/-! ## The schedule -/

/-- The credit of one chunk. -/
abbrev N : ℕ := (scrV 0 0).view.dmaCredit
theorem N_pos : 0 < N := View.dmaCredit_pos _ (by decide)
/-- Every chunk has the same credit. -/
theorem chunk_credit (m : Memref sig .tc .vmem S64x512 .bf16) : m.view.dmaCredit = N := rfl
theorem scr_credit (s : Fin 2) (k : Fin 8) : (scrV s k).view.dmaCredit = N := rfl
theorem out_credit (k : Fin 8) (h : Fin 2) : (outV k h).view.dmaCredit = N := rfl

/-- The duties of a semaphore's one round: both signals of a barrier, the one credit of a transfer cell. -/
def dutiesOf : SemLoc sig → Finset Bool
  | .reg _ => Finset.univ
  | .dma q => if 2 ≤ q.val then {false} else ∅

/-- One round of every cell, as described above. -/
def plan : Rounds.Schedule (GSem nD τ sig) Bool 𝕄 where
  duties g r := if r = 0 ∧ g.1.2 = .tc then dutiesOf g.2 else ∅
  unitless _ := False
  amount g _ _ := match g.2 with
    | .reg _ => 1
    | .dma _ => N
  payload g _ d := match g.2 with
    | .reg _ => barPay g.1.1 d
    | .dma q => xferPay X g.1.1 ((q.val - 2) / 8) ⟨(q.val - 2) % 8, Nat.mod_lt _ (by decide)⟩
  amount_pos g _ _ _ := by
    rcases g with ⟨t, s | s⟩
    · exact Nat.one_pos
    · exact N_pos

instance plan_payload_storable (g : GSem nD τ sig) (r : ℕ) (d : Bool) : BI.Storable (upEmb : UEmb _ 𝕄) ((plan X).payload g r d) := by
  rcases g with ⟨t, s | s⟩
  · exact barPay_storable t.1 d
  · exact xferPay_storable X t.1 _ _

section Plan
variable (c : Dev nD) (a : Fin 4) (k : Fin 8)

theorem duties_bar : (plan X).duties (barC c) 0 = Finset.univ := by dsimp only [plan]; exact if_pos ⟨rfl, rfl⟩
theorem duties_xfer : (plan X).duties (xferC a c k) 0 = {false} := by
  dsimp only [plan]; rw [if_pos ⟨rfl, rfl⟩]; exact if_pos (two_le_dsem a k)
theorem duties_later (g : GSem nD τ sig) : ∀ r, 1 ≤ r → (plan X).duties g r = ∅ :=
  fun r hr => by dsimp only [plan]; exact if_neg fun h => by omega

theorem amount_bar (d : Bool) : (plan X).amount (barC c) 0 d = 1 := rfl
theorem amount_xfer (d : Bool) : (plan X).amount (xferC a c k) 0 d = N := rfl

theorem expect_bar : (plan X).expect (barC c) 0 = 2 := by
  unfold Schedule.expect Schedule.amountOf
  rw [duties_bar, Finset.sum_congr rfl fun d _ => amount_bar X c d]; rfl
theorem expect_xfer : (plan X).expect (xferC a c k) 0 = N := by
  unfold Schedule.expect Schedule.amountOf; rw [duties_xfer, Finset.sum_singleton, amount_xfer]

theorem payload_bar (d : Bool) : (plan X).payload (barC c) 0 d = barPay c d := rfl
theorem payload_xfer (d : Bool) : (plan X).payload (xferC a c k) 0 d = xferPay X c a.val k := by
  show xferPay X c (((dsem a k).val - 2) / 8) ⟨((dsem a k).val - 2) % 8, _⟩ = _
  congr 1
  · exact dsem_role a k
  · exact Fin.ext (dsem_chunk a k)

/-- Waiting for both signals of its barrier, a device has all the room it writes into. -/
theorem rest_bar : bigSep ((plan X).duties (barC c) 0 \ ∅) (fun d => (plan X).payload (barC c) 0 d)
    = iprop((bigSep Finset.univ fun k => roomAcross (F := F) c k) ∗ bigSep Finset.univ fun k => roomBeside (F := F) c k) := by
  rw [Finset.sdiff_empty, duties_bar, bigSep_univ_eq_bigSepL [false, true] (by decide) (by decide), bigSepL_cons_cons, bigSepL_singleton]
  rfl
theorem rest_xfer : bigSep ((plan X).duties (xferC a c k) 0 \ ∅) (fun d => (plan X).payload (xferC a c k) 0 d) = xferPay X c a.val k := by
  rw [Finset.sdiff_empty, duties_xfer, bigSep_singleton, payload_xfer]

end Plan

/-! ## Levels: a device waits on a barrier before the chunks from across, on those before the chunks from beside -/

def L (g : GSem nD τ sig) : Finset Unit := if g.1.2 = .tc then {()} else ∅
/-- Send and staging cells lowest, then barriers, then receiving from across, then from beside. -/
def lvlOf : SemLoc sig → ℕ
  | .reg _ => 1
  | .dma q => if 2 ≤ q.val ∧ (q.val - 2) / 8 = 1 then 2 else if 2 ≤ q.val ∧ (q.val - 2) / 8 = 3 then 3 else 0
def lv (g : GSem nD τ sig) (_ : Unit) : ℕ := lvlOf g.2

theorem L_of_ne (g : GSem nD τ sig) (h : g.1.2 ≠ .tc) : L g = ∅ := if_neg h
theorem L_tc (c : Dev nD) (sm : SemLoc sig) : L ((c : Thread nD τ), sm) = {()} := if_pos rfl

theorem lvl_recvAcross (k : Fin 8) : lvlOf (.dma (dsem recvAcross k)) = 2 := if_pos ⟨two_le_dsem _ _, dsem_role recvAcross k⟩
theorem lvl_recvBeside (k : Fin 8) : lvlOf (.dma (dsem recvBeside k)) = 3 :=
  (if_neg fun h => absurd ((dsem_role recvBeside k).symm.trans h.2) (by decide)).trans (if_pos ⟨two_le_dsem _ _, dsem_role recvBeside k⟩)

/-- A device may wait on a cell below everything it owes. -/
theorem mayWait_below (c : Dev nD) (sm : SemLoc sig) (O : CellTallies nD τ sig Unit)
    (h : ∀ g u, 0 < O g u → g.1.2 = .tc ∧ lvlOf sm < lvlOf g.2) : (levAts L lv : sProp 𝕄) ⊢ MayWait (c : Thread nD τ) sm () O :=
  MayOwe.of_cut (L := L) (lev := lv) (lvlOf sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

end Cert.PlaneSum

end
-- ==== Proof.Stages.lean ====
/-
What a device holds of one chunk as the kernel goes on, and what it still owes its neighbours. Six
stages carry a chunk from the empty scratch to the finished result; the kernel takes the chunks
through them one stage at a time.
-/
module

public import proofs.«01_k».proof.Proof.Protocol

@[expose] public section

noncomputable section

namespace Cert.PlaneSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What every device knows -/

variable (X : Dev nD → Block F) (K : Dev nD × Slot → ℕ)

/-- Every cell's invariant, that every cell is at its first round, and the levels. -/
def records : sProp 𝕄 :=
  iprop((bigSep Finset.univ fun p : Dev nD × Slot => cellInv ER (plan X) (K p) (cell p))
    ∗ (bigSep Finset.univ fun p : Dev nD × Slot => reached ER (cell p) 0) ∗ levAts L lv)

instance records_persistent : BI.Persistent (records X K) := by unfold records; infer_instance

theorem records_inv (p : Dev nD × Slot) : records X K ⊢ cellInv ER (plan X) (K p) (cell p) := by
  have h : (bigSep Finset.univ fun p : Dev nD × Slot => (cellInv ER (plan X) (K p) (cell p) : sProp 𝕄)) ⊢ cellInv ER (plan X) (K p) (cell p) :=
    bigSep_elim (Finset.mem_univ p)
  unfold records
  iintro ⟨H, -, -⟩
  iapply h; iexact H
theorem records_reached (p : Dev nD × Slot) : records X K ⊢ reached ER (cell p) 0 := by
  have h : (bigSep Finset.univ fun p : Dev nD × Slot => (reached ER (cell p) 0 : sProp 𝕄)) ⊢ reached ER (cell p) 0 := bigSep_elim (Finset.mem_univ p)
  unfold records
  iintro ⟨-, H, -⟩
  iapply h; iexact H
theorem records_levels : records X K ⊢ levAts L lv := by
  unfold records
  iintro ⟨-, -, H⟩; iexact H

/-! ## What a device owes -/

/-- The credits of device `d`'s cells in role `a`, for the chunks from `n` on. -/
def dueFrom (a : Fin 4) (d : Dev nD) (n : ℕ) : CellTallies nD τ sig Unit :=
  ∑ k ∈ Finset.univ.filter (fun k : Fin 8 => n ≤ k.val), tallyAt (xferC a d k) () N

theorem dueFrom_at (a : Fin 4) (d : Dev nD) (k : Fin 8) : dueFrom a d k.val = dueFrom a d (k.val + 1) + tallyAt (xferC a d k) () N := by
  unfold dueFrom
  have h : Finset.univ.filter (fun j : Fin 8 => k.val ≤ j.val) = insert k (Finset.univ.filter (fun j : Fin 8 => k.val + 1 ≤ j.val)) := by
    ext j
    simp only [Finset.mem_filter, Finset.mem_univ, true_and, Finset.mem_insert, Fin.ext_iff]
    omega
  rw [h, Finset.sum_insert (by simp only [Finset.mem_filter, Finset.mem_univ, true_and]; omega), add_comm]
theorem dueFrom_zero (a : Fin 4) (d : Dev nD) : dueFrom a d 0 = ∑ k : Fin 8, tallyAt (xferC a d k) () N :=
  Finset.sum_congr (Finset.filter_true_of_mem fun k _ => Nat.zero_le _) fun _ _ => rfl
theorem dueFrom_done (a : Fin 4) (d : Dev nD) : dueFrom a d 8 = 0 := by
  unfold dueFrom
  rw [Finset.filter_false_of_mem fun k _ => by have := k.isLt; omega, Finset.sum_empty]

theorem dueFrom_pos {a : Fin 4} {d : Dev nD} {n : ℕ} {g : GSem nD τ sig} {u : Unit} (h : 0 < dueFrom a d n g u) : ∃ k, g = xferC a d k := by
  unfold dueFrom at h
  rw [Finset.sum_apply, Finsupp.finset_sum_apply] at h
  obtain ⟨k, -, hk⟩ := Finset.exists_ne_zero_of_sum_ne_zero h.ne'
  exact ⟨k, (Pipeline.tallyAt_pos (Nat.pos_of_ne_zero hk)).1⟩

/-- What is owed during the transfers across: those from chunk `n` on, and all the ones beside. -/
def due1 (c : Dev nD) (n : ℕ) : CellTallies nD τ sig Unit := dueFrom recvBeside (beside c) 0 + dueFrom recvAcross (across c) n
/-- What is owed during the transfers beside: those from chunk `n` on. -/
def due2 (c : Dev nD) (n : ℕ) : CellTallies nD τ sig Unit := dueFrom recvBeside (beside c) n
/-- What a device owes at the start: its transfers, and a signal to each of its neighbours. -/
def due0 (c : Dev nD) : CellTallies nD τ sig Unit := due1 c 0 + tallyAt (barC (beside c)) () 1 + tallyAt (barC (across c)) () 1

theorem due1_at (c : Dev nD) (k : Fin 8) : due1 c k.val = due1 c (k.val + 1) + tallyAt (xferC recvAcross (across c) k) () N := by
  unfold due1; rw [dueFrom_at, add_assoc]
theorem due1_done (c : Dev nD) : due1 c 8 = due2 c 0 := by unfold due1 due2; rw [dueFrom_done, add_zero]
theorem due2_at (c : Dev nD) (k : Fin 8) : due2 c k.val = due2 c (k.val + 1) + tallyAt (xferC recvBeside (beside c) k) () N := dueFrom_at _ _ _
theorem due2_done (c : Dev nD) : due2 c 8 = 0 := dueFrom_done _ _

/-- Waiting on its barrier, a device owes transfers only. -/
theorem mayWait_bar (c : Dev nD) : (levAts L lv : sProp 𝕄) ⊢ MayWait (c : Thread nD τ) (.reg barrier0) () (due1 c 0) :=
  mayWait_below c _ _ fun g u h => by
    unfold due1 at h
    rw [Pi.add_apply, Finsupp.add_apply] at h
    rcases (by omega : 0 < dueFrom recvBeside (beside c) 0 g u ∨ 0 < dueFrom recvAcross (across c) 0 g u) with h | h
    · obtain ⟨k, rfl⟩ := dueFrom_pos h; exact ⟨rfl, by rw [lvl_recvBeside]; exact Nat.lt_of_sub_eq_succ rfl⟩
    · obtain ⟨k, rfl⟩ := dueFrom_pos h; exact ⟨rfl, by rw [lvl_recvAcross]; exact Nat.lt_of_sub_eq_succ rfl⟩

/-- Waiting for a chunk from across, a device owes transfers beside only. -/
theorem mayWait_across (c : Dev nD) (k : Fin 8) (n : ℕ) : (levAts L lv : sProp 𝕄) ⊢ MayWait (c : Thread nD τ) (.dma (dsem recvAcross k)) () (due2 c n) :=
  mayWait_below c _ _ fun g u h => by
    obtain ⟨j, rfl⟩ := dueFrom_pos h
    exact ⟨rfl, by rw [lvl_recvAcross, lvl_recvBeside]; exact Nat.lt_of_sub_eq_succ rfl⟩

/-! ## The stages of a chunk -/

variable (c : Dev nD)

/-- Where the device is with a transfer cell, and the credit it will wait for there. -/
def keys (a : Fin 4) (k : Fin 8) : sProp 𝕄 := iprop(atPos ER (xferC a c k) 0 ∅ 0 ∗ cred (tallyAt (xferC a c k) () N))

/-- What sending chunk `k` across and receiving the one from across takes. -/
def forAcross (k : Fin 8) : sProp 𝕄 :=
  iprop(dutyTok ER (xferC recvAcross (across c) k) 0 false ∗ dutyTok ER (xferC sendAcross c k) 0 false
    ∗ atPos ER (xferC sendAcross c k) 0 ∅ 0 ∗ keys c recvAcross k)
/-- What sending chunk `k` beside and receiving the one from beside takes. -/
def forBeside (k : Fin 8) : sProp 𝕄 :=
  iprop(dutyTok ER (xferC recvBeside (beside c) k) 0 false ∗ dutyTok ER (xferC sendBeside c k) 0 false
    ∗ atPos ER (xferC sendBeside c k) 0 ∅ 0 ∗ keys c recvBeside k ∗ ∃ f, outPt c k (col c) f)

/-- Untouched. -/
def stageNew (k : Fin 8) : sProp 𝕄 :=
  iprop((∃ f, scrPt c 0 k fullShare f) ∗ forAcross c k ∗ forBeside c k)
/-- Stored in the scratch. -/
def stageStored (k : Fin 8) : sProp 𝕄 :=
  iprop(scrPt c 0 k fullShare (scrF X c) ∗ forAcross c k ∗ forBeside c k)
/-- With room at both neighbours. -/
def stageReady (k : Fin 8) : sProp 𝕄 :=
  iprop((scrPt c 0 k fullShare (scrF X c) ∗ forAcross c k ∗ forBeside c k) ∗ roomAcross c k ∗ roomBeside c k)
/-- Sent across. -/
def stageCrossed (k : Fin 8) : sProp 𝕄 :=
  iprop(scrPt c 0 k fullShare.left (scrF X c) ∗ keys c sendAcross k ∗ keys c recvAcross k ∗ forBeside c k ∗ roomBeside c k)
/-- Received from across, summed and sent beside. -/
def stageSummed (k : Fin 8) : sProp 𝕄 :=
  iprop(scrPt c 0 k fullShare.left (scrF X c) ∗ keys c sendAcross k ∗ scrPt c 1 k fullShare (scrF X c) ∗ semVal (xferC recvAcross c k) 0
      ∗ keys c sendBeside k ∗ keys c recvBeside k)
/-- The other half received from beside. -/
def stageShared (k : Fin 8) : sProp 𝕄 :=
  iprop(scrPt c 0 k fullShare.left (scrF X c) ∗ keys c sendAcross k ∗ scrPt c 1 k fullShare (scrF X c) ∗ semVal (xferC recvAcross c k) 0
      ∗ keys c sendBeside k ∗ outPt c k (col c).rev (outF X c) ∗ semVal (xferC recvBeside c k) 0)
/-- Finished. -/
def stageDone (k : Fin 8) : sProp 𝕄 :=
  iprop((scrPt c 0 k fullShare (scrF X c) ∗ scrPt c 1 k fullShare (scrF X c)) ∗ (outPt c k (col c) (outF X c) ∗ outPt c k (col c).rev (outF X c))
      ∗ semVal (xferC sendAcross c k) 0 ∗ semVal (xferC recvAcross c k) 0 ∗ semVal (xferC sendBeside c k) 0 ∗ semVal (xferC recvBeside c k) 0)

/-- What a device holds of chunk `k` at each stage. -/
def stage : ℕ → Fin 8 → sProp 𝕄
  | 0 => stageNew c
  | 1 => stageStored X c
  | 2 => stageReady X c
  | 3 => stageCrossed X c
  | 4 => stageSummed X c
  | 5 => stageShared X c
  | 6 => stageDone X c
  | _ => fun _ => iprop(emp)

/-- The chunks below `n` at stage `p + 1`, the others at stage `p`. -/
def chunks (p n : ℕ) : sProp 𝕄 := bigSep Finset.univ fun k : Fin 8 => stage X c (if k.val < n then p + 1 else p) k

/-- One chunk is taken to its next stage. -/
theorem chunks_step (p : ℕ) (k : Fin 8) : chunks X c p k.val ⊢ iprop(stage X c p k ∗ (stage X c (p + 1) k -∗ chunks X c p (k.val + 1))) := by
  have h := bigSep_univ_update (Φ := fun j : Fin 8 => stage X c (if j.val < k.val then p + 1 else p) j)
    (Ψ := fun j : Fin 8 => stage X c (if j.val < k.val + 1 then p + 1 else p) j) k
    (fun j hj => by
      have : j.val ≠ k.val := fun e => hj (Fin.ext e)
      by_cases hlt : j.val < k.val
      · rw [if_pos hlt, if_pos (by omega)]
      · rw [if_neg hlt, if_neg (by omega)])
  simp only [lt_self_iff_false, if_false, Nat.lt_succ_self, if_true] at h
  exact h

/-- Chunk `k` turns by storing it. -/
theorem chunks_store (k : Fin 8) : chunks X c 0 k.val ⊢ iprop(stageNew c k ∗ (stageStored X c k -∗ chunks X c 0 (k.val + 1))) := chunks_step X c 0 k
/-- Chunk `k` turns by sending it across. -/
theorem chunks_across (k : Fin 8) : chunks X c 2 k.val ⊢ iprop(stageReady X c k ∗ (stageCrossed X c k -∗ chunks X c 2 (k.val + 1))) := chunks_step X c 2 k
/-- Chunk `k` turns by summing it and sending it beside. -/
theorem chunks_sum (k : Fin 8) : chunks X c 3 k.val ⊢ iprop(stageCrossed X c k ∗ (stageSummed X c k -∗ chunks X c 3 (k.val + 1))) := chunks_step X c 3 k
/-- Chunk `k` turns by receiving from beside. -/
theorem chunks_beside (k : Fin 8) : chunks X c 4 k.val ⊢ iprop(stageSummed X c k ∗ (stageShared X c k -∗ chunks X c 4 (k.val + 1))) := chunks_step X c 4 k
/-- Chunk `k` turns by the end of the sends. -/
theorem chunks_end (k : Fin 8) : chunks X c 5 k.val ⊢ iprop(stageShared X c k ∗ (stageDone X c k -∗ chunks X c 5 (k.val + 1))) := chunks_step X c 5 k

theorem chunks_zero (p : ℕ) : chunks X c p 0 = bigSep Finset.univ fun k : Fin 8 => stage X c p k :=
  bigSep_congr fun k _ => by rw [if_neg (Nat.not_lt_zero _)]
theorem chunks_done (p : ℕ) : chunks X c p 8 = bigSep Finset.univ fun k : Fin 8 => stage X c (p + 1) k :=
  bigSep_congr fun k _ => by rw [if_pos k.isLt]
theorem chunks_next (p : ℕ) : chunks X c p 8 = chunks X c (p + 1) 0 := by rw [chunks_done, chunks_zero]

end Cert.PlaneSum

end
-- ==== Proof.Steps.lean ====
/-
One turn of each loop of the kernel: storing a chunk, sending it across, receiving from across and
sending the sum beside, receiving from beside, and waiting for the two sends to end. Each takes one
chunk to its next stage.
-/
module

public import proofs.«01_k».proof.Proof.Stages

@[expose] public section

noncomputable section

namespace Cert.PlaneSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The rest of a kernel body, run on device `c`. -/
abbrev run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- What device `c` owes, whatever it has waited on. -/
def held (c : Dev nD) (O : CellTallies nD τ sig Unit) : sProp 𝕄 := iprop(∃ W, owes (c : Thread nD τ) O W)

variable (X : Dev nD → Block F) (K : Dev nD × Slot → ℕ) (c : Dev nD)

/-- Owing `O`, a device is `n` chunks into the loop that takes the chunks from stage `p` to the next. -/
def going (O : CellTallies nD τ sig Unit) (p n : ℕ) : sProp 𝕄 := iprop(records X K ∗ held c O ∗ chunks X c p n)

/-! ## Waiting on a transfer cell -/

/-- A wait on a transfer cell brings what its transfer hands over, and closes the cell at zero. -/
theorem wait_xfer (a : Fin 4) (k : Fin 8) {S : DmaSem sig} (hS : S = dsem a k)
    {src : Memref sig .tc .vmem S64x512 .bf16} {dst : Memref sig .tc .vmem S64x512 .bf16}
    {hs : src.view.WordExact} {hd : dst.view.WordExact} {O : CellTallies nD τ sig Unit}
    (hO : records X K ⊢ MayWait (c : Thread nD τ) (.dma (dsem a k)) () O)
    {rest : PUnit → Prog (TpuEff nD τ sig (Elt F) Λ₀ .tc) PUnit} {Q : PUnit → sProp 𝕄} :
    iprop(records X K ∗ keys c a k ∗ held c O)
      ⊢ iprop(((held c O ∗ semVal (xferC a c k) 0 ∗ xferPay X c a.val k) -∗ run c (rest ⟨⟩) Q)
        -∗ run c (.op (.waitDma2 S src dst hs hd) rest) Q) := by
  subst hS
  unfold keys held
  iintro ⟨#HR, ⟨Hat, Hc⟩, ⟨%W, HO⟩⟩ Hk
  ihave #HI := (records_inv X K (c, some (a, k))) $$ HR
  iapply (Rounds.wp_wait_rest_token 𝒱₀ ER (plan X) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, expect_xfer])) $$ [Hc HO Hat]
  · isplitr; · iexact HI
    isplitl [Hc]; · iexact Hc
    isplitl [HO]; · iexact HO
    isplitr; · iapply hO; iexact HR
    iexact Hat
  iintro ⟨HO, Hat, -, Hpay⟩
  imod (Rounds.cell_close ER (plan X) (Set.mem_univ (K (c, some (a, k)))) (fun h => h) (R := 0 + 1) (duties_later X (xferC a c k))) $$ [Hat] with Hz
  · isplitr; · iexact HI
    iexact Hat
  iapply Hk
  isplitl [HO]; · iexists _; iexact HO
  isplitl [Hz]; · iexact Hz
  rw [← rest_xfer X c a k]; iexact Hpay

/-- A device that owes nothing may wait on anything. -/
theorem mayWait_nothing (sm : SemLoc sig) : records X K ⊢ MayWait (c : Thread nD τ) sm () (0 : CellTallies nD τ sig Unit) := by
  rw [MayWait_zero]; iintro -; iempintro

/-! ## Storing a chunk -/

theorem scr_reads (s : Fin 2) (k : Fin 8) : (scrM : Memref sig .tc .vmem S2x8x64x512 .bf16).view.setOn (scrR s k).toLoadRect.set ⊆ (scrR s k).set := by
  have h := scrA_set s k
  rw [View.set_slice] at h
  exact h.le
theorem out_reads (k : Fin 8) (h : Fin 2) : (outM : Memref sig .tc .vmem S512x1024 .bf16).view.setOn (outR k h).toLoadRect.set ⊆ (outR k h).set := by
  have e : ((View.whole cc0_stg1_0).slice (outR k h)).set = (outR k h).set := View.set_slice_whole _ _
  rw [View.set_slice] at e
  exact e.le

/-- The block of `x` a device holds. -/
def xPt : sProp 𝕄 := ((c : Thread nD τ).loc cc0_stg0_0) ↦{fullShare} (X c)

/-- The chunk of the scratch once the block's chunk is stored there. -/
theorem stored_pt (k : Fin 8) (f : Buf (Elt F) ((c : Thread nD τ).loc cc0_scratch0)) :
    (((scrM.access (scrR 0 k) : View sig .tc _ _ _).loc (c : Thread nD τ) ↦[(scrR 0 k).set]{fullShare}
      ((scrM.access (scrR 0 k) : View sig .tc _ _ _).write (Elt F) f (k0_pay1 (xM.view.readAt (Elt F) (xR k).toLoadRect (X c))) Finset.univ)) : sProp 𝕄)
      = (((c : Thread nD τ).loc cc0_scratch0) ↦[(scrR 0 k).set]{fullShare} scrF X c) := pointsTo_congr (stored X c k f)
/-- The chunk of the result once the sum is stored there. -/
theorem summed_pt (k : Fin 8) (f : Buf (Elt F) ((c : Thread nD τ).loc cc0_stg1_0)) :
    (((outM.access (outR k (col c)) : View sig .tc _ _ _).loc (c : Thread nD τ) ↦[(outR k (col c)).set]{fullShare}
      ((outM.access (outR k (col c)) : View sig .tc _ _ _).write (Elt F) f
        (k0_pay10 (scrM.view.readAt (Elt F) (scrR 0 k).toLoadRect (scrF X c)) (scrM.view.readAt (Elt F) (scrR 1 k).toLoadRect (scrF X c))) Finset.univ)) : sProp 𝕄)
      = (((c : Thread nD τ).loc cc0_stg1_0) ↦[(outR k (col c)).set]{fullShare} outF X c) := pointsTo_congr (summed X c k f)

/-- Chunk `k` is stored in the scratch. -/
theorem step_store (k : Fin 8) {ox : Fin 2 → ℕ} (hox : ox = xOff k) {ixb : ∀ a, ox a + S64x512.size a ≤ S512x512.size a}
    {os : Fin 4 → ℕ} (hos : os = scrOff 0 k) {isb : ∀ a, os a + S1x1x64x512.size a ≤ S2x8x64x512.size a}
    {pay : Vec F S64x512 .bf16 → FVec F S1x1x64x512 .bf16} (hpay : pay = k0_pay1)
    {hl : (xM : Memref sig .tc .vmem S512x512 .bf16).view.LoadsAt (Rect.unit (s := S512x512) ox S64x512.size ixb).toLoadRect}
    {hl' : (scrM : Memref sig .tc .vmem S2x8x64x512 .bf16).view.LoadsAt (Rect.unit (s := S2x8x64x512) os S1x1x64x512.size isb).toLoadRect}
    {hx} {hm}
    {rest : Vec F S64x512 .bf16 → Vec F S1x1x64x512 .bf16 → PUnit → Prog (TpuEff nD τ sig (Elt F) Λ₀ .tc) PUnit} {Q : PUnit → sProp 𝕄} :
    iprop(xPt X c ∗ chunks X c 0 k.val)
      ⊢ iprop((∀ v v', (xPt X c ∗ chunks X c 0 (k.val + 1)) -∗ run c (rest v v' ⟨⟩) Q)
        -∗ run c (.op (.load xM (Rect.unit (s := S512x512) ox S64x512.size ixb).toLoadRect hl) fun v =>
            .op (.load scrM (Rect.unit (s := S2x8x64x512) os S1x1x64x512.size isb).toLoadRect hl') fun v' =>
            .op (.store scrM (Rect.unit (s := S2x8x64x512) os S1x1x64x512.size isb) (pay v) Finset.univ hx hm) (rest v v')) Q) := by
  subst hox hos hpay
  iintro ⟨Hx, Hch⟩ Hk
  ihave H := (chunks_store X c k) $$ Hch
  unfold stageNew stageStored
  icases H with ⟨⟨⟨%f, Hs⟩, Ha, Hb⟩, Hcl⟩
  unfold xPt scrPt
  iapply (wp_load 𝒱₀ (c : Thread nD τ) none Set.univ (m := xM) (Finset.subset_univ _)) $$ Hx; iintro Hx
  iapply (wp_load 𝒱₀ (c : Thread nD τ) none Set.univ (m := scrM) (scr_reads 0 k)) $$ Hs; iintro Hs
  iapply (wp_store 𝒱₀ (c : Thread nD τ) none Set.univ (m := scrM) (r := scrR 0 k) (Mk := Finset.univ) (scrA_set 0 k).le) $$ Hs; iintro Hs
  iapply Hk
  isplitl [Hx]; · iexact Hx
  iapply Hcl
  isplitl [Hs]
  · iapply (Entails.of_eq (stored_pt X c k f)); iexact Hs
  isplitl [Ha] <;> iassumption

/-! ## Sending a chunk across -/

/-- Chunk `k` is sent across. -/
theorem step_across (k : Fin 8) {n : Dev nD} (hn : n = across c) {src dst : Memref sig .tc .vmem S64x512 .bf16}
    (hsrc : src = scrV 0 k) (hdst : dst = scrV 1 k) {S R : DmaSem sig} (hS : S = dsem sendAcross k) (hR : R = dsem recvAcross k)
    {hsc : dst.view.ref.isScScratch = false} {h1 : src.view.WordExact} {h2 : dst.view.WordExact}
    {h3 : DmaTarget.Typed .vmem (.dma R) (.remote (Dev.tc n : Thread nD τ) dst (.dma S) hsc)}
    {rest : PUnit → Prog (TpuEff nD τ sig (Elt F) Λ₀ .tc) PUnit} {Q : PUnit → sProp 𝕄} :
    going X K c (due1 c k.val) 2 k.val
      ⊢ iprop((going X K c (due1 c (k.val + 1)) 2 (k.val + 1) -∗ run c (rest ⟨⟩) Q)
        -∗ run c (.op (.enqueueDma src (.remote (Dev.tc n : Thread nD τ) dst (.dma S) hsc) (.dma R) h1 h2 h3) rest) Q) := by
  subst hn hsrc hdst hS hR
  unfold going
  iintro ⟨#HR, HO, Hch⟩ Hk
  ihave H := (chunks_across X c k) $$ Hch
  unfold held
  icases HO with ⟨%W, HO⟩
  unfold stageReady stageCrossed forAcross roomAcross
  icases H with ⟨⟨⟨Hs, ⟨HtR, HtS, Hat, Hr⟩, Hb⟩, ⟨%f, Hroom⟩, Hrb⟩, Hcl⟩
  ihave #HI1 := (records_inv X K (c, some (sendAcross, k))) $$ HR
  ihave #HI2 := (records_inv X K (across c, some (recvAcross, k))) $$ HR
  ihave #Hr1 := (records_reached X K (c, some (sendAcross, k))) $$ HR
  ihave #Hr2 := (records_reached X K (across c, some (recvAcross, k))) $$ HR
  unfold scrPt
  ihave Hs2 := (pointsTo_share (PosShare.mem_left_op_right fullShare)).1 $$ Hs
  icases Hs2 with ⟨Hl, Hrt⟩
  iapply (Rounds.wp_send_pointsTo 𝒱₀ ER (plan X) (c : Thread nD τ) none (κ₁ := K (c, some (sendAcross, k))) (κ₂ := K (across c, some (recvAcross, k)))
      (c' := (across c : Thread nD τ)) (src := scrV 0 k) (dst := scrV 1 k) (q := fullShare.right) (fs := scrF X c)
      (r₁ := 0) (r₂ := 0) (d₁ := false) (d₂ := false) (fd := f)
      (by rw [duties_xfer]; exact Finset.mem_singleton_self _) (by rw [duties_xfer]; exact Finset.mem_singleton_self _)
      () () N rfl (amount_xfer X c sendAcross k false) (amount_xfer X (across c) recvAcross k false) (due1 c (k.val + 1)) (due1_at c k) (W := W)
      (by rw [payload_xfer, scrV_set]; exact BI.Entails.refl _)
      (by rw [payload_xfer, scrV_set, pointsTo_congr (crossed X c k f)]; exact BI.Entails.refl _))
    $$ [HO Hrt Hroom HtR HtS]
  · isplitr; · iexact HI1
    isplitr; · iexact HI2
    isplitl [Hrt]; · rw [scrV_set]; iexact Hrt
    isplitl [Hroom]; · rw [scrV_set]; iexact Hroom
    isplitl [HO]; · iexact HO
    isplitl [HtS]; · iexact HtS
    isplitr; · iexact Hr1
    isplitl [HtR]; · iexact HtR
    iexact Hr2
  iintro ⟨Hc, HO⟩
  iapply Hk
  isplitr; · iexact HR
  isplitl [HO]; · iexists W; iexact HO
  iapply Hcl
  isplitl [Hl]; · iexact Hl
  isplitl [Hat Hc]
  · unfold keys; isplitl [Hat]; · iexact Hat
    iexact Hc
  isplitl [Hr]; · iexact Hr
  isplitl [Hb] <;> iassumption

/-! ## Receiving from across, summing, sending beside -/

/-- Chunk `k` comes from across; the sum with the device's own goes into the result and is sent beside. -/
theorem step_sum (k : Fin 8) {R0 : DmaSem sig} (hR0 : R0 = dsem recvAcross k)
    {ws wd : Memref sig .tc .vmem S64x512 .bf16} {hws : ws.view.WordExact} {hwd : wd.view.WordExact}
    {o0 : Fin 4 → ℕ} (ho0 : o0 = scrOff 0 k) {i0 : ∀ a, o0 a + S1x1x64x512.size a ≤ S2x8x64x512.size a}
    {o1 : Fin 4 → ℕ} (ho1 : o1 = scrOff 1 k) {i1 : ∀ a, o1 a + S1x1x64x512.size a ≤ S2x8x64x512.size a}
    {oo : Fin 2 → ℕ} (hoo : oo = outOff k (col c)) {io : ∀ a, oo a + S64x512.size a ≤ S512x1024.size a}
    {ot : Fin 2 → ℕ} (hot : ot = outOff k (col c)) {it : ∀ a, ot a + S64x512.size a ≤ S512x1024.size a}
    {pay : Vec F S1x1x64x512 .bf16 → Vec F S1x1x64x512 .bf16 → FVec F S64x512 .bf16} (hpay : pay = k0_pay10)
    {hl0 : (scrM : Memref sig .tc .vmem S2x8x64x512 .bf16).view.LoadsAt (Rect.unit (s := S2x8x64x512) o0 S1x1x64x512.size i0).toLoadRect}
    {hl1 : (scrM : Memref sig .tc .vmem S2x8x64x512 .bf16).view.LoadsAt (Rect.unit (s := S2x8x64x512) o1 S1x1x64x512.size i1).toLoadRect}
    {hlo : (outM : Memref sig .tc .vmem S512x1024 .bf16).view.LoadsAt (Rect.unit (s := S512x1024) oo S64x512.size io).toLoadRect}
    {hx} {hm}
    {n : Dev nD} (hn : n = beside c) {S R : DmaSem sig} (hS : S = dsem sendBeside k) (hR : R = dsem recvBeside k)
    {hu hu' hsc} {h1 h2 h3}
    {rest : PUnit → Prog (TpuEff nD τ sig (Elt F) Λ₀ .tc) PUnit} {Q : PUnit → sProp 𝕄} :
    going X K c (due2 c k.val) 3 k.val
      ⊢ iprop((going X K c (due2 c (k.val + 1)) 3 (k.val + 1) -∗ run c (rest ⟨⟩) Q)
        -∗ run c (.op (.waitDma2 R0 ws wd hws hwd) fun _ =>
            .op (.load scrM (Rect.unit (s := S2x8x64x512) o0 S1x1x64x512.size i0).toLoadRect hl0) fun v =>
            .op (.load scrM (Rect.unit (s := S2x8x64x512) o1 S1x1x64x512.size i1).toLoadRect hl1) fun w =>
            .op (.load outM (Rect.unit (s := S512x1024) oo S64x512.size io).toLoadRect hlo) fun _ =>
            .op (.store outM (Rect.unit (s := S512x1024) oo S64x512.size io) (pay v w) Finset.univ hx hm) fun _ =>
            .op (.enqueueDma ((outM : Memref sig .tc .vmem S512x1024 .bf16).slice (Rect.unit (s := S512x1024) ot S64x512.size it) hu)
                (.remote (Dev.tc n : Thread nD τ) ((outM : Memref sig .tc .vmem S512x1024 .bf16).slice (Rect.unit (s := S512x1024) ot S64x512.size it) hu') (.dma S) hsc)
                (.dma R) h1 h2 h3) rest) Q) := by
  subst ho0 ho1 hoo hot hpay hn hS hR
  unfold going
  iintro ⟨#HR, HO, Hch⟩ Hk
  ihave H := (chunks_sum X c k) $$ Hch
  unfold stageCrossed stageSummed forBeside roomBeside
  icases H with ⟨⟨Hl, HkS, HkR, ⟨HtR, HtS, Hat, Hr, ⟨%fo, Hout⟩⟩, ⟨%f, Hroom⟩⟩, Hcl⟩
  iapply (wait_xfer X K c recvAcross k hR0 (O := due2 c k.val) ((records_levels X K).trans (mayWait_across c k k.val))) $$ [HkR HO]
  · isplitr; · iexact HR
    isplitl [HkR] <;> iassumption
  iintro ⟨HO, Hz, Hp⟩
  ihave Hp := (Entails.of_eq (show xferPay X c recvAcross.val k = scrPt c 1 k fullShare (scrF X c) from rfl)) $$ Hp
  unfold scrPt outPt
  iapply (wp_load 𝒱₀ (c : Thread nD τ) none Set.univ (m := scrM) (scr_reads 0 k)) $$ Hl; iintro Hl
  iapply (wp_load 𝒱₀ (c : Thread nD τ) none Set.univ (m := scrM) (scr_reads 1 k)) $$ Hp; iintro Hp
  iapply (wp_load 𝒱₀ (c : Thread nD τ) none Set.univ (m := outM) (out_reads k (col c))) $$ Hout; iintro Hout
  iapply (wp_store 𝒱₀ (c : Thread nD τ) none Set.univ (m := outM) (r := outR k (col c)) (Mk := Finset.univ) (outV_set k (col c)).le) $$ Hout; iintro Hout
  ihave Hout := (Entails.of_eq (summed_pt X c k fo)) $$ Hout
  unfold held
  icases HO with ⟨%W, HO⟩
  ihave #HI1 := (records_inv X K (c, some (sendBeside, k))) $$ HR
  ihave #HI2 := (records_inv X K (beside c, some (recvBeside, k))) $$ HR
  ihave #Hr1 := (records_reached X K (c, some (sendBeside, k))) $$ HR
  ihave #Hr2 := (records_reached X K (beside c, some (recvBeside, k))) $$ HR
  iapply (Rounds.wp_send_pointsTo 𝒱₀ ER (plan X) (c : Thread nD τ) none (κ₁ := K (c, some (sendBeside, k))) (κ₂ := K (beside c, some (recvBeside, k)))
      (c' := (beside c : Thread nD τ)) (src := outV k (col c)) (dst := outV k (col c)) (q := fullShare) (fs := outF X c)
      (r₁ := 0) (r₂ := 0) (d₁ := false) (d₂ := false) (fd := f)
      (by rw [duties_xfer]; exact Finset.mem_singleton_self _) (by rw [duties_xfer]; exact Finset.mem_singleton_self _)
      () () N rfl (amount_xfer X c sendBeside k false) (amount_xfer X (beside c) recvBeside k false) (due2 c (k.val + 1)) (due2_at c k) (W := W)
      (by rw [payload_xfer, outV_set]; exact BI.Entails.refl _)
      (by
        rw [payload_xfer, outV_set, pointsTo_congr (shared k (col c) f (outF X c))]
        show _ ⊢ outPt (beside c) k (col (beside c)).rev (outF X (beside c))
        rw [col_beside, Fin.rev_rev, outF_beside]
        exact BI.Entails.refl _))
    $$ [HO Hout Hroom HtR HtS]
  · isplitr; · iexact HI1
    isplitr; · iexact HI2
    isplitl [Hout]; · rw [outV_set]; iexact Hout
    isplitl [Hroom]; · rw [outV_set]; iexact Hroom
    isplitl [HO]; · iexact HO
    isplitl [HtS]; · iexact HtS
    isplitr; · iexact Hr1
    isplitl [HtR]; · iexact HtR
    iexact Hr2
  iintro ⟨Hc, HO⟩
  iapply Hk
  isplitr; · iexact HR
  isplitl [HO]; · iexists W; iexact HO
  iapply Hcl
  isplitl [Hl]; · iexact Hl
  isplitl [HkS]; · iexact HkS
  isplitl [Hp]; · iexact Hp
  isplitl [Hz]; · iexact Hz
  isplitl [Hat Hc]
  · unfold keys; isplitl [Hat]; · iexact Hat
    iexact Hc
  iexact Hr

/-! ## Receiving from beside -/

/-- Chunk `k` of the other half comes from beside. -/
theorem step_beside (k : Fin 8) {R : DmaSem sig} (hR : R = dsem recvBeside k)
    {ws wd : Memref sig .tc .vmem S64x512 .bf16} {hws : ws.view.WordExact} {hwd : wd.view.WordExact}
    {rest : PUnit → Prog (TpuEff nD τ sig (Elt F) Λ₀ .tc) PUnit} {Q : PUnit → sProp 𝕄} :
    going X K c 0 4 k.val
      ⊢ iprop((going X K c 0 4 (k.val + 1) -∗ run c (rest ⟨⟩) Q)
        -∗ run c (.op (.waitDma2 R ws wd hws hwd) rest) Q) := by
  unfold going
  iintro ⟨#HR, HO, Hch⟩ Hk
  ihave H := (chunks_beside X c k) $$ Hch
  unfold stageSummed stageShared
  icases H with ⟨⟨Hl, HkS, Hp, Hz, HkB, HkR⟩, Hcl⟩
  iapply (wait_xfer X K c recvBeside k hR (O := 0) (mayWait_nothing X K c _)) $$ [HkR HO]
  · isplitr; · iexact HR
    isplitl [HkR] <;> iassumption
  iintro ⟨HO, Hz', Hp'⟩
  ihave Hp' := (Entails.of_eq (show xferPay X c recvBeside.val k = outPt c k (col c).rev (outF X c) from rfl)) $$ Hp'
  iapply Hk
  isplitr; · iexact HR
  isplitl [HO]; · iexact HO
  iapply Hcl
  isplitl [Hl]; · iexact Hl
  isplitl [HkS]; · iexact HkS
  isplitl [Hp]; · iexact Hp
  isplitl [Hz]; · iexact Hz
  isplitl [HkB]; · iexact HkB
  isplitl [Hp']; · iexact Hp'
  iexact Hz'

/-! ## The sends end -/

/-- Both sends of chunk `k` have ended: what they were reading is the device's again. -/
theorem step_end (k : Fin 8) {S1 : DmaSem sig} (hS1 : S1 = dsem sendAcross k) {S2 : DmaSem sig} (hS2 : S2 = dsem sendBeside k)
    {ws wd us ud : Memref sig .tc .vmem S64x512 .bf16} {hws : ws.view.WordExact} {hwd : wd.view.WordExact}
    {hus : us.view.WordExact} {hud : ud.view.WordExact}
    {rest : PUnit → Prog (TpuEff nD τ sig (Elt F) Λ₀ .tc) PUnit} {Q : PUnit → sProp 𝕄} :
    going X K c 0 5 k.val
      ⊢ iprop((going X K c 0 5 (k.val + 1) -∗ run c (rest ⟨⟩) Q)
        -∗ run c (.op (.waitDma2 S1 ws wd hws hwd) fun _ => .op (.waitDma2 S2 us ud hus hud) rest) Q) := by
  unfold going
  iintro ⟨#HR, HO, Hch⟩ Hk
  ihave H := (chunks_end X c k) $$ Hch
  unfold stageShared stageDone
  icases H with ⟨⟨Hl, HkS, Hp, Hz, HkB, Ho, Hz'⟩, Hcl⟩
  iapply (wait_xfer X K c sendAcross k hS1 (O := 0) (mayWait_nothing X K c _)) $$ [HkS HO]
  · isplitr; · iexact HR
    isplitl [HkS] <;> iassumption
  iintro ⟨HO, Hza, Hr⟩
  iapply (wait_xfer X K c sendBeside k hS2 (O := 0) (mayWait_nothing X K c _)) $$ [HkB HO]
  · isplitr; · iexact HR
    isplitl [HkB] <;> iassumption
  iintro ⟨HO, Hzb, Hob⟩
  ihave Hr := (Entails.of_eq (show xferPay X c sendAcross.val k = scrPt c 0 k fullShare.right (scrF X c) from rfl)) $$ Hr
  ihave Hob := (Entails.of_eq (show xferPay X c sendBeside.val k = outPt c k (col c) (outF X c) from rfl)) $$ Hob
  unfold scrPt
  ihave Hs := (pointsTo_share (PosShare.mem_left_op_right fullShare)).2 $$ [Hl Hr]
  · isplitl [Hl] <;> iassumption
  iapply Hk
  isplitr; · iexact HR
  isplitl [HO]; · iexact HO
  iapply Hcl
  isplitl [Hs Hp]
  · isplitl [Hs] <;> iassumption
  isplitl [Ho Hob]
  · isplitl [Hob]; · iexact Hob
    iexact Ho
  isplitl [Hza]; · iexact Hza
  isplitl [Hz]; · iexact Hz
  isplitl [Hzb]; · iexact Hzb
  iexact Hz'

end Cert.PlaneSum

end
-- ==== Proof.Ends.lean ====
/-
The start and the end of the kernel body: the buffers cut into the chunks' pieces, and the finished
chunks put together again.
-/
module

public import proofs.«01_k».proof.Proof.Steps
public import Idealize.ShloMosaic.Lib.Ring

@[expose] public section

noncomputable section

namespace Cert.PlaneSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Block F) (K : Dev nD × Slot → ℕ) (c : Dev nD)

/-! ## The buffers as their pieces -/

omit [FloatOps F] in
/-- The scratch is the chunks of its two planes. -/
theorem scr_pieces (f : Buf (Elt F) ((c : Thread nD τ).loc cc0_scratch0)) :
    ((((c : Thread nD τ).loc cc0_scratch0) ↦{fullShare} f) : sProp 𝕄)
      = iprop((bigSep Finset.univ fun k : Fin 8 => scrPt c 0 k fullShare f) ∗ bigSep Finset.univ fun k : Fin 8 => scrPt c 1 k fullShare f) := by
  rw [Ring.pointsTo_blocks (fun p : Fin 2 × Fin 8 => (scrR p.1 p.2).set) scr_disjoint scr_cover f, bigSep_univ_prod, bigSep_univ_two]
  rfl

omit [FloatOps F] in
/-- The result is the chunks of its two halves, a device's own half first. -/
theorem out_pieces (f : Buf (Elt F) ((c : Thread nD τ).loc cc0_stg1_0)) :
    ((((c : Thread nD τ).loc cc0_stg1_0) ↦{fullShare} f) : sProp 𝕄)
      = iprop((bigSep Finset.univ fun k : Fin 8 => outPt c k (col c) f) ∗ bigSep Finset.univ fun k : Fin 8 => outPt c k (col c).rev f) := by
  have h : ∀ Φ : Fin 2 → sProp 𝕄, bigSep Finset.univ Φ = iprop(Φ (col c) ∗ Φ (col c).rev) := fun Φ => by
    generalize col c = h
    rw [bigSep_univ_eq_bigSepL [h, h.rev] (by revert h; decide) (by revert h; decide), bigSepL_cons_cons, bigSepL_singleton]
    rfl
  rw [Ring.pointsTo_blocks (fun p : Fin 2 × Fin 8 => (outR p.2 p.1).set) out_disjoint out_cover f, bigSep_univ_prod, h]
  rfl

/-! ## Start -/

/-- What sending beside and receiving from beside takes, the result's own chunk apart. -/
def tokBeside (k : Fin 8) : sProp 𝕄 :=
  iprop(dutyTok ER (xferC recvBeside (beside c) k) 0 false ∗ dutyTok ER (xferC sendBeside c k) 0 false
    ∗ atPos ER (xferC sendBeside c k) 0 ∅ 0 ∗ keys c recvBeside k)

theorem start_chunks :
    iprop((bigSep Finset.univ fun k => forAcross (F := F) c k) ∗ (bigSep Finset.univ fun k => tokBeside (F := F) c k)
        ∗ (∃ f, ((c : Thread nD τ).loc cc0_scratch0) ↦{fullShare} f) ∗ (∃ f, ((c : Thread nD τ).loc cc0_stg1_0) ↦{fullShare} f))
      ⊢ iprop(chunks X c 0 0 ∗ barPay (across c) false ∗ barPay (beside c) true) := by
  iintro ⟨Ha, Hb, ⟨%f, Hs⟩, ⟨%g, Ho⟩⟩
  ihave Hs := (Entails.of_eq (scr_pieces c f)) $$ Hs
  icases Hs with ⟨Hs0, Hs1⟩
  ihave Ho := (Entails.of_eq (out_pieces c g)) $$ Ho
  icases Ho with ⟨Ho0, Ho1⟩
  rw [chunks_zero]
  have h0 : iprop((bigSep Finset.univ fun k : Fin 8 => scrPt c 0 k fullShare f) ∗ (bigSep Finset.univ fun k => forAcross (F := F) c k)
      ∗ (bigSep Finset.univ fun k => tokBeside (F := F) c k) ∗ bigSep Finset.univ fun k : Fin 8 => outPt c k (col c) g)
      ⊢ bigSep Finset.univ fun k : Fin 8 => stage X c 0 k := by
    rw [← bigSep_sep', ← bigSep_sep', ← bigSep_sep']
    refine bigSep_mono fun k _ => ?_
    show _ ⊢ stageNew c k
    unfold stageNew forBeside tokBeside
    iintro ⟨Hs, Ha, ⟨H1, H2, H3, H4⟩, Ho⟩
    isplitl [Hs]; · iexists f; iexact Hs
    isplitl [Ha]; · iexact Ha
    isplitl [H1]; · iexact H1
    isplitl [H2]; · iexact H2
    isplitl [H3]; · iexact H3
    isplitl [H4]; · iexact H4
    iexists g; iexact Ho
  have h1 : (bigSep Finset.univ fun k : Fin 8 => scrPt c 1 k fullShare f) ⊢ barPay (F := F) (across c) false := by
    unfold barPay roomAcross
    rw [across_across]
    refine bigSep_mono fun k _ => ?_
    show scrPt c 1 k fullShare f ⊢ iprop(∃ f, scrPt c 1 k fullShare f)
    iintro H; iexists f; iexact H
  have h2 : (bigSep Finset.univ fun k : Fin 8 => outPt c k (col c).rev g) ⊢ barPay (F := F) (beside c) true := by
    unfold barPay roomBeside
    rw [beside_beside, col_beside]
    refine bigSep_mono fun k _ => ?_
    show outPt c k (col c).rev g ⊢ iprop(∃ f, outPt c k (col c).rev f)
    iintro H; iexists g; iexact H
  isplitl [Hs0 Ha Hb Ho0]
  · iapply h0
    isplitl [Hs0]; · iexact Hs0
    isplitl [Ha]; · iexact Ha
    isplitl [Hb] <;> iassumption
  isplitl [Hs1]
  · iapply h1; iexact Hs1
  · iapply h2; iexact Ho1

/-- The barrier gives every chunk its room at the neighbours. -/
theorem ready_chunks :
    iprop(chunks X c 0 8 ∗ (bigSep Finset.univ fun k => roomAcross (F := F) c k) ∗ bigSep Finset.univ fun k => roomBeside (F := F) c k)
      ⊢ chunks X c 2 0 := by
  rw [chunks_done, chunks_zero, ← bigSep_sep', ← bigSep_sep']
  exact bigSep_mono fun k _ => BI.Entails.refl _

/-! ## End -/

/-- A device's transfer cells, all at zero. -/
def zeros : sProp 𝕄 := bigSep Finset.univ fun p : Fin 4 × Fin 8 => semVal (xferC p.1 c p.2) 0

theorem end_chunks : chunks X c 5 8 ⊢ iprop((((c : Thread nD τ).loc cc0_scratch0) ↦{fullShare} (scrF X c))
    ∗ (((c : Thread nD τ).loc cc0_stg1_0) ↦{fullShare} (outF X c)) ∗ zeros (F := F) c) := by
  have h : zeros (F := F) c = iprop((bigSep Finset.univ fun k => semVal (xferC sendAcross c k) 0) ∗ (bigSep Finset.univ fun k => semVal (xferC recvAcross c k) 0)
      ∗ (bigSep Finset.univ fun k => semVal (xferC sendBeside c k) 0) ∗ bigSep Finset.univ fun k => semVal (xferC recvBeside c k) 0) := by
    unfold zeros
    rw [bigSep_univ_prod, bigSep_univ_eq_bigSepL [(0 : Fin 4), (1 : Fin 4), (2 : Fin 4), (3 : Fin 4)] (by decide) (by decide),
      bigSepL_cons_cons, bigSepL_cons_cons, bigSepL_cons_cons, bigSepL_singleton]
    rfl
  have h' : (bigSep Finset.univ fun k : Fin 8 => stageDone X c k) = iprop(
      ((bigSep Finset.univ fun k : Fin 8 => scrPt c 0 k fullShare (scrF X c)) ∗ bigSep Finset.univ fun k : Fin 8 => scrPt c 1 k fullShare (scrF X c))
      ∗ ((bigSep Finset.univ fun k : Fin 8 => outPt c k (col c) (outF X c)) ∗ bigSep Finset.univ fun k : Fin 8 => outPt c k (col c).rev (outF X c))
      ∗ zeros (F := F) c) := by
    rw [h, ← bigSep_sep', ← bigSep_sep', ← bigSep_sep', ← bigSep_sep', ← bigSep_sep', ← bigSep_sep', ← bigSep_sep']
    rfl
  rw [chunks_done, scr_pieces, out_pieces]
  exact (Entails.of_eq h')

end Cert.PlaneSum

end
-- ==== Proof.Body.lean ====
/-
The kernel body on device `c`, run from start to end: from its block of `x`, an empty scratch, an empty
result and its part of the protocol, to the finished result with every semaphore back at zero.
-/
module

public import proofs.«01_k».proof.Proof.Ends

@[expose] public section

noncomputable section

namespace Cert.PlaneSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Block F) (K : Dev nD × Slot → ℕ) (c : Dev nD)

/-! ## The barrier -/

/-- A device's part of the barriers: where it is with its own, its credit there, and its duty at each neighbour's. -/
def bars : sProp 𝕄 :=
  iprop(atPos ER (barC c) 0 ∅ 0 ∗ cred (tallyAt (barC c) () 2) ∗ dutyTok ER (barC (across c)) 0 false ∗ dutyTok ER (barC (beside c)) 0 true)

/-- The barrier: a device hands each neighbour the room it writes into, and once both have signalled has its own room. -/
theorem step_barrier {n1 n2 : Dev nD} (hn1 : n1 = across c) (hn2 : n2 = beside c) {S1 S2 S3 : Sem sig} (hS1 : S1 = barrier0) (hS2 : S2 = barrier0)
    (hS3 : S3 = barrier0) {z1 z2 z3 : ℤ} (hz1 : z1 = ((1 : ℕ) : ℤ)) (hz2 : z2 = ((1 : ℕ) : ℤ)) (hz3 : z3 = ((2 : ℕ) : ℤ))
    {rest : PUnit → Prog (TpuEff nD τ sig (Elt F) Λ₀ .tc) PUnit} {Q : PUnit → sProp 𝕄} :
    iprop(records X K ∗ bars c ∗ held c (due0 c) ∗ barPay (across c) false ∗ barPay (beside c) true)
      ⊢ iprop(((held c (due1 c 0) ∗ semVal (barC c) 0 ∗ (bigSep Finset.univ fun k => roomAcross (F := F) c k)
              ∗ bigSep Finset.univ fun k => roomBeside (F := F) c k) -∗ run c (rest ⟨⟩) Q)
        -∗ run c (.op (.semSignal (n1 : Thread nD τ) S1 z1) fun _ => .op (.semSignal (n2 : Thread nD τ) S2 z2) fun _ =>
            .op (.semWait S3 z3) rest) Q) := by
  subst hn1 hn2 hS1 hS2 hS3 hz1 hz2 hz3
  unfold bars held
  iintro ⟨#HR, ⟨Hat, Hc, Hta, Htb⟩, ⟨%W, HO⟩, Hpa, Hpb⟩ Hk
  ihave #HI := (records_inv X K (c, none)) $$ HR
  ihave #HIa := (records_inv X K (across c, none)) $$ HR
  ihave #HIb := (records_inv X K (beside c, none)) $$ HR
  ihave #Hra := (records_reached X K (across c, none)) $$ HR
  ihave #Hrb := (records_reached X K (beside c, none)) $$ HR
  iapply (Rounds.wp_signal 𝒱₀ ER (plan X) (c : Thread nD τ) none (dst := (across c : Thread nD τ)) (κ := K (across c, none))
      (d := false) (by rw [duties_bar]; exact Finset.mem_univ _) (amount_bar X (across c) false) () (due1 c 0 + tallyAt (barC (beside c)) () 1) rfl)
    $$ [HO Hta Hpa]
  · isplitr; · iexact HIa
    isplitl [HO]; · iexact HO
    isplitl [Hta]; · iexact Hta
    isplitl [Hpa]; · rw [payload_bar]; iexact Hpa
    iexact Hra
  iintro HO
  iapply (Rounds.wp_signal 𝒱₀ ER (plan X) (c : Thread nD τ) none (dst := (beside c : Thread nD τ)) (κ := K (beside c, none))
      (d := true) (by rw [duties_bar]; exact Finset.mem_univ _) (amount_bar X (beside c) true) () (due1 c 0) rfl)
    $$ [HO Htb Hpb]
  · isplitr; · iexact HIb
    isplitl [HO]; · iexact HO
    isplitl [Htb]; · iexact Htb
    isplitl [Hpb]; · rw [payload_bar]; iexact Hpb
    iexact Hrb
  iintro HO
  iapply (Rounds.wp_wait_rest_token 𝒱₀ ER (plan X) (c : Thread nD τ) none (κ := K (c, none))
      (wpE_semWait_eq 𝒱₀ (c : Thread nD τ) none Set.univ) (Set.mem_univ _) () (O := due1 c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iapply (records_levels X K); iexact HR
    iexact Hat
  iintro ⟨HO, Hat, -, Hpay⟩
  imod (Rounds.cell_close ER (plan X) (Set.mem_univ (K (c, none))) (fun h => h) (R := 0 + 1) (duties_later X (barC c))) $$ [Hat] with Hz
  · isplitr; · iexact HI
    iexact Hat
  ihave Hp := (Entails.of_eq (rest_bar X c)) $$ Hpay
  icases Hp with ⟨Hpa, Hpb⟩
  iapply Hk
  isplitl [HO]; · iexists _; iexact HO
  isplitl [Hz]; · iexact Hz
  isplitl [Hpa] <;> iassumption

/-! ## The body -/

/-- A device's part of the protocol at the start. -/
def ghost : sProp 𝕄 :=
  iprop(records X K ∗ bars (F := F) c ∗ (bigSep Finset.univ fun k => forAcross (F := F) c k) ∗ bigSep Finset.univ fun k => tokBeside (F := F) c k)

/-- What a device is at between two steps, from its parts. -/
theorem going_intro (O : CellTallies nD τ sig Unit) (p n : ℕ) :
    iprop(records X K ∗ held c O ∗ chunks X c p n) ⊢ going X K c O p n := by
  unfold going; exact Entails.of_eq rfl

/-- The fourth chunk's payload, computed in two parts, is the others'. -/
theorem pay_split (v : Vec F S64x512 .bf16) : k0_pay5 (k0_pay4 v) = k0_pay1 v := by
  unfold k0_pay5 k0_pay4 k0_pay1
  rfl

set_option maxHeartbeats 1000000 in
set_option maxRecDepth 65536 in
/-- The body's effects, one loop after the other. -/
theorem sound_body (Q : PUnit → sProp 𝕄) :
    iprop((ghost X K c ∗ (∃ f, ((c : Thread nD τ).loc cc0_scratch0) ↦{fullShare} f) ∗ (∃ f, ((c : Thread nD τ).loc cc0_stg1_0) ↦{fullShare} f)
          ∗ held c (due0 c) ∗ xPt X c)
        ∗ (((((c : Thread nD τ).loc cc0_scratch0) ↦{fullShare} (scrF X c)) ∗ (((c : Thread nD τ).loc cc0_stg1_0) ↦{fullShare} (outF X c))
          ∗ zeros (F := F) c ∗ semVal (barC c) 0 ∗ held c 0 ∗ xPt X c) -∗ Q ⟨⟩))
      ⊢ run c (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Q := by
  rw [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton]
  simp only [k0_part1_skel, k0_part2_skel, k0_part3_skel, k0_part4_skel, k0_part5_skel, k0_part6_skel, k0_part7_skel, k0_part8_skel, k0_part9_skel,
    k0_part10_skel, k0_part11_skel, k0_part12_skel, k0_part13_skel, k0_part14_skel, k0_part15_skel, k0_part16_skel, k0_part17_skel, k0_part18_skel,
    k0_part19_skel, k0_part20_skel, semSignalWord, semWaitWord, Prog.lift, Prog.bind_op, Prog.bind_ret, Prog.pure_eq_ret, wp_deviceId,
    pay_split]
  unfold ghost
  iintro ⟨⟨⟨#HR, Hbars, Ha, Hb⟩, Hs, Ho, HO, Hx⟩, Hk⟩
  ihave H := (start_chunks X c) $$ [Ha Hb Hs Ho]
  · isplitl [Ha]; · iexact Ha
    isplitl [Hb]; · iexact Hb
    isplitl [Hs] <;> iassumption
  icases H with ⟨Hch, Hpa, Hpb⟩
  icombine Hx Hch as H
  -- the chunks are stored in the scratch
  iapply (step_store X c 0 rfl rfl (pay := k0_pay1) rfl) $$ [H]; · iexact H
  iintro %_ %_ H
  iapply (step_store X c 1 rfl rfl (pay := k0_pay2) rfl) $$ [H]; · iexact H
  iintro %_ %_ H
  iapply (step_store X c 2 rfl rfl (pay := k0_pay3) rfl) $$ [H]; · iexact H
  iintro %_ %_ H
  iapply (step_store X c 3 rfl rfl (pay := k0_pay1) rfl) $$ [H]; · iexact H
  iintro %_ %_ H
  iapply (step_store X c 4 rfl rfl (pay := k0_pay6) rfl) $$ [H]; · iexact H
  iintro %_ %_ H
  iapply (step_store X c 5 rfl rfl (pay := k0_pay7) rfl) $$ [H]; · iexact H
  iintro %_ %_ H
  iapply (step_store X c 6 rfl rfl (pay := k0_pay8) rfl) $$ [H]; · iexact H
  iintro %_ %_ H
  iapply (step_store X c 7 rfl rfl (pay := k0_pay9) rfl) $$ [H]; · iexact H
  iintro %_ %_ H
  icases H with ⟨Hx, Hch⟩
  -- the barrier
  iapply (step_barrier X K c (dev1 c) (dev2 c) rfl rfl rfl rfl rfl rfl) $$ [Hbars HO Hpa Hpb]
  · isplitr; · iexact HR
    isplitl [Hbars]; · iexact Hbars
    isplitl [HO]; · iexact HO
    isplitl [Hpa] <;> iassumption
  iintro ⟨HO, Hz, Hra, Hrb⟩
  ihave Hch := (ready_chunks X c) $$ [Hch Hra Hrb]
  · isplitl [Hch]; · iexact Hch
    isplitl [Hra] <;> iassumption
  ihave H := (going_intro X K c (due1 c 0) 2 0) $$ [HO Hch]
  · isplitr; · iexact HR
    isplitl [HO] <;> iassumption
  -- the chunks are sent across
  iapply (step_across X K c 0 (dev3 c) rfl rfl rfl rfl) $$ [H]; · iexact H
  iintro H
  iapply (step_across X K c 1 (dev4 c) rfl rfl rfl rfl) $$ [H]; · iexact H
  iintro H
  iapply (step_across X K c 2 (dev5 c) rfl rfl rfl rfl) $$ [H]; · iexact H
  iintro H
  iapply (step_across X K c 3 (dev6 c) rfl rfl rfl rfl) $$ [H]; · iexact H
  iintro H
  iapply (step_across X K c 4 (dev7 c) rfl rfl rfl rfl) $$ [H]; · iexact H
  iintro H
  iapply (step_across X K c 5 (dev8 c) rfl rfl rfl rfl) $$ [H]; · iexact H
  iintro H
  iapply (step_across X K c 6 (dev9 c) rfl rfl rfl rfl) $$ [H]; · iexact H
  iintro H
  iapply (step_across X K c 7 (dev10 c) rfl rfl rfl rfl) $$ [H]; · iexact H
  iintro H
  ihave H := (Entails.of_eq (show going X K c (due1 c 8) 2 8 = going X K c (due2 c 0) 3 0 by unfold going; rw [due1_done, chunks_next])) $$ [H]; · iexact H
  -- each chunk from across is summed with the device's own and sent beside
  iapply (step_sum X K c 0 rfl rfl rfl (off1 c) (off2 c) (pay := k0_pay10) rfl (dev11 c) rfl rfl) $$ [H]; · iexact H
  iintro H
  iapply (step_sum X K c 1 rfl rfl rfl (off3 c) (off4 c) (pay := k0_pay11) rfl (dev12 c) rfl rfl) $$ [H]; · iexact H
  iintro H
  iapply (step_sum X K c 2 rfl rfl rfl (off5 c) (off6 c) (pay := k0_pay12) rfl (dev13 c) rfl rfl) $$ [H]; · iexact H
  iintro H
  iapply (step_sum X K c 3 rfl rfl rfl (off7 c) (off8 c) (pay := k0_pay13) rfl (dev14 c) rfl rfl) $$ [H]; · iexact H
  iintro H
  iapply (step_sum X K c 4 rfl rfl rfl (off9 c) (off10 c) (pay := k0_pay14) rfl (dev15 c) rfl rfl) $$ [H]; · iexact H
  iintro H
  iapply (step_sum X K c 5 rfl rfl rfl (off11 c) (off12 c) (pay := k0_pay15) rfl (dev16 c) rfl rfl) $$ [H]; · iexact H
  iintro H
  iapply (step_sum X K c 6 rfl rfl rfl (off13 c) (off14 c) (pay := k0_pay16) rfl (dev17 c) rfl rfl) $$ [H]; · iexact H
  iintro H
  iapply (step_sum X K c 7 rfl rfl rfl (off15 c) (off16 c) (pay := k0_pay17) rfl (dev18 c) rfl rfl) $$ [H]; · iexact H
  iintro H
  ihave H := (Entails.of_eq (show going X K c (due2 c 8) 3 8 = going X K c 0 4 0 by unfold going; rw [due2_done, chunks_next])) $$ [H]; · iexact H
  -- the chunks from beside
  iapply (step_beside X K c 0 rfl) $$ [H]; · iexact H
  iintro H
  iapply (step_beside X K c 1 rfl) $$ [H]; · iexact H
  iintro H
  iapply (step_beside X K c 2 rfl) $$ [H]; · iexact H
  iintro H
  iapply (step_beside X K c 3 rfl) $$ [H]; · iexact H
  iintro H
  iapply (step_beside X K c 4 rfl) $$ [H]; · iexact H
  iintro H
  iapply (step_beside X K c 5 rfl) $$ [H]; · iexact H
  iintro H
  iapply (step_beside X K c 6 rfl) $$ [H]; · iexact H
  iintro H
  iapply (step_beside X K c 7 rfl) $$ [H]; · iexact H
  iintro H
  ihave H := (Entails.of_eq (show going X K c 0 4 8 = going X K c 0 5 0 by unfold going; rw [chunks_next])) $$ [H]; · iexact H
  -- the sends end
  iapply (step_end X K c 0 rfl rfl) $$ [H]; · iexact H
  iintro H
  iapply (step_end X K c 1 rfl rfl) $$ [H]; · iexact H
  iintro H
  iapply (step_end X K c 2 rfl rfl) $$ [H]; · iexact H
  iintro H
  iapply (step_end X K c 3 rfl rfl) $$ [H]; · iexact H
  iintro H
  iapply (step_end X K c 4 rfl rfl) $$ [H]; · iexact H
  iintro H
  iapply (step_end X K c 5 rfl rfl) $$ [H]; · iexact H
  iintro H
  iapply (step_end X K c 6 rfl rfl) $$ [H]; · iexact H
  iintro H
  iapply (step_end X K c 7 rfl rfl) $$ [H]; · iexact H
  iintro H
  unfold going
  icases H with ⟨-, HO, Hch⟩
  ihave H := (end_chunks X c) $$ [Hch]; · iexact Hch
  icases H with ⟨Hs, Ho, Hzs⟩
  unfold run
  rw [wp_ret]; imodintro
  iapply Hk
  isplitl [Hs]; · iexact Hs
  isplitl [Ho]; · iexact Ho
  isplitl [Hzs]; · iexact Hzs
  isplitl [Hz]; · iexact Hz
  isplitl [HO] <;> iassumption

end Cert.PlaneSum

end
-- ==== Proof.Deal.lean ====
/-
What the launch gives the devices: every cell of the protocol is opened at its first round, and the
tokens of the transfers and signals a device pays for are dealt to it from its neighbours' cells.
-/
module

public import proofs.«01_k».proof.Proof.Body

@[expose] public section

noncomputable section

namespace Cert.PlaneSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's cells, one kind after the other -/

omit [FloatOps F] in
/-- Over a device's slots: the barrier's, then the transfers'. -/
theorem over_slots (Φ : Slot → sProp 𝕄) : bigSep Finset.univ Φ = iprop(Φ none ∗ bigSep Finset.univ fun p : Fin 4 × Fin 8 => Φ (some p)) := by
  have h : Finset.univ.erase (none : Slot) = Finset.univ.map (Function.Embedding.some (α := Fin 4 × Fin 8)) := by decide
  rw [bigSep_univ_split (none : Slot), h, bigSep_map]
  rfl

omit [FloatOps F] in
/-- Over the transfers: role by role. -/
theorem over_roles (Φ : Fin 4 × Fin 8 → sProp 𝕄) : bigSep Finset.univ Φ
    = iprop((bigSep Finset.univ fun k => Φ (sendAcross, k)) ∗ (bigSep Finset.univ fun k => Φ (recvAcross, k))
      ∗ (bigSep Finset.univ fun k => Φ (sendBeside, k)) ∗ bigSep Finset.univ fun k => Φ (recvBeside, k)) := by
  rw [bigSep_univ_prod, bigSep_univ_eq_bigSepL [(0 : Fin 4), (1 : Fin 4), (2 : Fin 4), (3 : Fin 4)] (by decide) (by decide),
    bigSepL_cons_cons, bigSepL_cons_cons, bigSepL_cons_cons, bigSepL_singleton]
  rfl

/-! ## What the launch mints -/

variable (X : Dev nD → Block F)

/-- Every device's cells. -/
def allCells : Finset (GSem nD τ sig) := Finset.univ.map ⟨cell, cell_injective⟩

/-- A token for each signal or credit of a cell's first round. -/
abbrev tokenOf (p : (Dev nD × Slot) × Bool) : GSem nD τ sig × ℕ × Bool := (cell p.1, 0, p.2)
theorem tokenOf_injective : Function.Injective tokenOf := fun p q h =>
  Prod.ext (cell_injective (congrArg Prod.fst h)) (congrArg (fun x : GSem nD τ sig × ℕ × Bool => x.2.2) h)
def allTokens : Finset (GSem nD τ sig × ℕ × Bool) := Finset.univ.map ⟨tokenOf, tokenOf_injective⟩

/-- The tokens of one cell. -/
def tokens (p : Dev nD × Slot) : sProp 𝕄 := bigSep Finset.univ fun d : Bool => dutyTok ER (cell p) 0 d

/-- What the launch mints for device `c`: the state of its cells, its place at each, and their tokens. -/
def minted (c : Dev nD) : sProp 𝕄 :=
  iprop((bigSep Finset.univ fun s : Slot => roundState ER (plan X) (cell (c, s)) 0)
    ∗ (bigSep Finset.univ fun s : Slot => reached ER (cell (c, s)) 0) ∗ (bigSep Finset.univ fun s : Slot => atPos ER (cell (c, s)) 0 ∅ 0)
    ∗ bigSep Finset.univ fun s : Slot => tokens (F := F) (c, s))

/-- The kernel's share of the launch's resources, minted. -/
theorem mint : BI.own (ER (initOf allCells allTokens)) ⊢ (|==> bigSep Finset.univ (minted X) : sProp 𝕄) := by
  have hC (Φ : GSem nD τ sig → sProp 𝕄) : bigSep allCells Φ = bigSep Finset.univ fun c : Dev nD => bigSep Finset.univ fun s : Slot => Φ (cell (c, s)) := by
    unfold allCells; rw [bigSep_map, bigSep_univ_prod]; rfl
  have hT : bigSep allTokens (fun x => (dutyTok ER x.1 x.2.1 x.2.2 : sProp 𝕄))
      = bigSep Finset.univ fun c : Dev nD => bigSep Finset.univ fun s : Slot => tokens (c, s) := by
    unfold allTokens tokens; rw [bigSep_map, bigSep_univ_prod, bigSep_univ_prod]; rfl
  have h := Rounds.fund ER (plan X) allCells allTokens
  rw [hC, hC, hC, hT] at h
  refine h.trans (BI.bupd_mono ?_)
  unfold minted
  rw [bigSep_sep', bigSep_sep', bigSep_sep']
  exact BI.Entails.refl _

/-! ## The cells open -/

/-- The kernel's own semaphores are those of its transfers. -/
abbrev osem (p : Fin 4 × Fin 8) : SemLoc sig := .dma (dsem p.1 p.2)
theorem ownSemFacts : Pipeline.OwnSemFacts cfg0.spec osem := by decide

/-- Device `c`'s own semaphores at zero. -/
abbrev ownZero (c : Dev nD) : sProp 𝕄 := Pipeline.ownSems0 (Ix := Unit) (Name := ℕ) (U := UU) (Lvl := ℕ) (Val := Elt F) (τ := τ) osem c

omit [FloatOps F] in
theorem ownZero_eq (c : Dev nD) : ownZero (F := F) c = zeros c := rfl

omit [FloatOps F] in
/-- The barrier semaphore is the one semaphore that outlives the kernel. -/
theorem unscoped_eq (c : Dev nD) : (unscopedSems0 c : sProp 𝕄) = semVal (barC c) 0 := by
  unfold unscopedSems0; rw [bigSep_eq_bigSepL_of_eq [SemLoc.reg barrier0] (by decide) (by decide)]; rfl

/-- A device's cells open, all at zero. -/
theorem open_cells (c : Dev nD) :
    iprop(ownZero (F := F) c ∗ unscopedSems0 c ∗ minted X c)
      ⊢ |={Set.univ}=> iprop((bigSep Finset.univ fun s : Slot => iprop(∃ κ : ℕ, cellInv ER (plan X) κ (cell (c, s))))
          ∗ (bigSep Finset.univ fun s : Slot => reached ER (cell (c, s)) 0) ∗ (bigSep Finset.univ fun s : Slot => atPos ER (cell (c, s)) 0 ∅ 0)
          ∗ bigSep Finset.univ fun s : Slot => tokens (F := F) (c, s)) := by
  have h : iprop((bigSep Finset.univ fun s : Slot => semVal (cell (c, s)) 0) ∗ bigSep Finset.univ fun s : Slot => roundState ER (plan X) (cell (c, s)) 0)
      ⊢ (|={Set.univ}=> bigSep Finset.univ fun s : Slot => iprop(∃ κ : ℕ, cellInv ER (plan X) κ (cell (c, s))) : sProp 𝕄) := by
    rw [← bigSep_sep']
    exact (bigSep_mono fun s _ => (Rounds.body_intro ER (plan X) (cell (c, s))).trans inv_alloc).trans (bigSep_fupd _ _)
  rw [ownZero_eq, unscoped_eq]
  unfold minted zeros
  iintro ⟨Hz, Hb, Hst, Hrest⟩
  imod h $$ [Hz Hb Hst] with Hinv
  · isplitl [Hz Hb]
    · rw [over_slots]; isplitl [Hb] <;> iassumption
    iexact Hst
  imodintro
  isplitl [Hinv] <;> iassumption

/-! ## The tokens dealt to those who pay -/

/-- The tokens of a device's own cells. -/
def ownTokens (c : Dev nD) : sProp 𝕄 :=
  iprop(dutyTok ER (barC c) 0 false ∗ dutyTok ER (barC c) 0 true
    ∗ (bigSep Finset.univ fun k => dutyTok ER (xferC sendAcross c k) 0 false) ∗ (bigSep Finset.univ fun k => dutyTok ER (xferC recvAcross c k) 0 false)
    ∗ (bigSep Finset.univ fun k => dutyTok ER (xferC sendBeside c k) 0 false) ∗ bigSep Finset.univ fun k => dutyTok ER (xferC recvBeside c k) 0 false)

/-- The tokens a device pays with. -/
def payTokens (c : Dev nD) : sProp 𝕄 :=
  iprop(dutyTok ER (barC (across c)) 0 false ∗ dutyTok ER (barC (beside c)) 0 true
    ∗ (bigSep Finset.univ fun k => dutyTok ER (xferC sendAcross c k) 0 false) ∗ (bigSep Finset.univ fun k => dutyTok ER (xferC recvAcross (across c) k) 0 false)
    ∗ (bigSep Finset.univ fun k => dutyTok ER (xferC sendBeside c k) 0 false) ∗ bigSep Finset.univ fun k => dutyTok ER (xferC recvBeside (beside c) k) 0 false)

omit [FloatOps F] in
theorem tokens_first (p : Dev nD × Slot) : tokens (F := F) p ⊢ dutyTok ER (cell p) 0 false := by
  unfold tokens; exact bigSep_elim (Finset.mem_univ false)

omit [FloatOps F] in
theorem own_tokens (c : Dev nD) : (bigSep Finset.univ fun s : Slot => tokens (F := F) (c, s)) ⊢ ownTokens c := by
  have hb : tokens (F := F) (c, none) ⊢ iprop(dutyTok ER (barC c) 0 false ∗ dutyTok ER (barC c) 0 true) := by
    unfold tokens
    rw [bigSep_univ_eq_bigSepL [false, true] (by decide) (by decide), bigSepL_cons_cons, bigSepL_singleton]
    exact BI.Entails.refl _
  have hx (a : Fin 4) : (bigSep Finset.univ fun k : Fin 8 => tokens (F := F) (c, some (a, k)))
      ⊢ bigSep Finset.univ fun k : Fin 8 => dutyTok ER (xferC a c k) 0 false := bigSep_mono fun k _ => tokens_first (c, some (a, k))
  rw [over_slots, over_roles]
  unfold ownTokens
  iintro ⟨Hb, H0, H1, H2, H3⟩
  ihave Hb := hb $$ Hb
  icases Hb with ⟨Hf, Ht⟩
  isplitl [Hf]; · iexact Hf
  isplitl [Ht]; · iexact Ht
  isplitl [H0]; · iapply (hx sendAcross); iexact H0
  isplitl [H1]; · iapply (hx recvAcross); iexact H1
  isplitl [H2]; · iapply (hx sendBeside); iexact H2
  iapply (hx recvBeside); iexact H3

omit [FloatOps F] in
/-- Each cell's tokens go to the device that pays there: across or beside, or nowhere. -/
theorem deal_tokens : (bigSep Finset.univ fun c : Dev nD => ownTokens (F := F) c) = bigSep Finset.univ fun c : Dev nD => payTokens c := by
  unfold ownTokens payTokens
  simp only [bigSep_sep']
  rw [bigSep_univ_equiv acrossEquiv (fun c : Dev nD => (dutyTok ER (barC c) 0 false : sProp 𝕄)),
    bigSep_univ_equiv besideEquiv (fun c : Dev nD => (dutyTok ER (barC c) 0 true : sProp 𝕄)),
    bigSep_univ_equiv acrossEquiv (fun c : Dev nD => bigSep Finset.univ fun k => (dutyTok ER (xferC recvAcross c k) 0 false : sProp 𝕄)),
    bigSep_univ_equiv besideEquiv (fun c : Dev nD => bigSep Finset.univ fun k => (dutyTok ER (xferC recvBeside c k) 0 false : sProp 𝕄))]
  rfl

/-! ## All devices at once -/

/-- What a device has once the cells are open: everyone's cells, its place at its own, and the tokens it pays with. -/
def dealt (c : Dev nD) : sProp 𝕄 :=
  iprop(∃ K : Dev nD × Slot → ℕ, ((bigSep Finset.univ fun p : Dev nD × Slot => cellInv ER (plan X) (K p) (cell p))
      ∗ bigSep Finset.univ fun p : Dev nD × Slot => reached ER (cell p) 0)
    ∗ (bigSep Finset.univ fun s : Slot => atPos ER (cell (c, s)) 0 ∅ 0) ∗ payTokens c)

theorem dealt_intro (K : Dev nD × Slot → ℕ) (c : Dev nD) :
    iprop(((bigSep Finset.univ fun p : Dev nD × Slot => cellInv ER (plan X) (K p) (cell p))
        ∗ bigSep Finset.univ fun p : Dev nD × Slot => reached ER (cell p) 0)
      ∗ (bigSep Finset.univ fun s : Slot => atPos ER (cell (c, s)) 0 ∅ 0) ∗ payTokens c) ⊢ dealt X c := by
  unfold dealt
  iintro H; iexists K; iexact H

/-- With every device's cells open, each device takes what it needs. -/
theorem share_out :
    (bigSep Finset.univ fun c : Dev nD => iprop((bigSep Finset.univ fun s : Slot => iprop(∃ κ : ℕ, cellInv ER (plan X) κ (cell (c, s))))
          ∗ (bigSep Finset.univ fun s : Slot => reached ER (cell (c, s)) 0) ∗ (bigSep Finset.univ fun s : Slot => atPos ER (cell (c, s)) 0 ∅ 0)
          ∗ bigSep Finset.univ fun s : Slot => tokens (F := F) (c, s)))
      ⊢ bigSep Finset.univ (dealt X) := by
  have e (Φ : Dev nD × Slot → sProp 𝕄) : (bigSep Finset.univ fun c : Dev nD => bigSep Finset.univ fun s : Slot => Φ (c, s)) = bigSep Finset.univ Φ :=
    (bigSep_univ_prod Φ).symm
  rw [bigSep_sep', bigSep_sep', bigSep_sep', e fun p => iprop(∃ κ : ℕ, cellInv ER (plan X) κ (cell p)), e fun p => reached ER (cell p) 0]
  have ht : (bigSep Finset.univ fun c : Dev nD => bigSep Finset.univ fun s : Slot => tokens (F := F) (c, s)) ⊢ bigSep Finset.univ fun c : Dev nD => payTokens c :=
    (bigSep_mono fun c _ => own_tokens c).trans (Entails.of_eq deal_tokens)
  have hd (K : Dev nD × Slot → ℕ) : iprop(((bigSep Finset.univ fun p : Dev nD × Slot => cellInv ER (plan X) (K p) (cell p))
        ∗ bigSep Finset.univ fun p : Dev nD × Slot => reached ER (cell p) 0)
      ∗ bigSep Finset.univ fun c : Dev nD => iprop((bigSep Finset.univ fun s : Slot => atPos ER (cell (c, s)) 0 ∅ 0) ∗ payTokens c))
      ⊢ bigSep Finset.univ (dealt X) := by
    refine (sep_mono_left (BI.bigSep_of_persistent (I := Dev nD) Finset.univ _)).trans ?_
    rw [← bigSep_sep']
    refine bigSep_mono fun c _ => ?_
    exact dealt_intro X K c
  iintro ⟨HI, #HR, Hat, Htok⟩
  ihave HK := (BI.bigSep_exists_pi Finset.univ (fun (p : Dev nD × Slot) (κ : ℕ) => (cellInv ER (plan X) κ (cell p) : sProp 𝕄))) $$ HI
  icases HK with ⟨%K, #HI⟩
  iapply (hd K)
  isplitr
  · isplitr; · iexact HI
    iexact HR
  rw [bigSep_sep']
  isplitl [Hat]; · iexact Hat
  iapply ht; iexact Htok

/-- From the semaphores at zero and what was minted: the cells opened and dealt. -/
theorem deal :
    (bigSep Finset.univ fun c => iprop(ownZero (F := F) c ∗ unscopedSems0 c ∗ minted X c)) ⊢ |={Set.univ}=> bigSep Finset.univ (dealt X) :=
  ((bigSep_mono fun c _ => open_cells X c).trans (bigSep_fupd _ _)).trans (BI.fupd_mono (share_out X))

end Cert.PlaneSum

end
-- ==== Proof.Credits.lean ====
/-
The credits the launch gives a device: what its neighbours owe to its cells, and what it takes from
all this to start.
-/
module

public import proofs.«01_k».proof.Proof.Deal

@[expose] public section

noncomputable section

namespace Cert.PlaneSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed to each cell -/

theorem across_eq (d c : Dev nD) : across d = c ↔ d = across c := by revert d c; decide
theorem beside_eq (d c : Dev nD) : beside d = c ↔ d = beside c := by revert d c; decide

/-- A barrier cell is owed no credit of a transfer. -/
theorem due_bar (a : Fin 4) (d c : Dev nD) : dueFrom a d 0 (barC c) () = 0 := by
  refine Nat.eq_zero_of_not_pos fun h => ?_
  obtain ⟨k, hk⟩ := dueFrom_pos h
  have h2 : (SemLoc.reg barrier0 : SemLoc sig) = .dma (dsem a k) := congrArg Prod.snd hk
  cases h2

/-- A transfer cell is owed a chunk's credit by the transfer of its role and chunk. -/
theorem due_xfer (a a' : Fin 4) (d c : Dev nD) (k : Fin 8) : dueFrom a d 0 (xferC a' c k) () = if d = c ∧ a = a' then N else 0 := by
  have h (j : Fin 8) : tallyAt (xferC a d j) () N (xferC a' c k) () = if k = j then (if d = c ∧ a = a' then N else 0) else 0 := by
    have e : (xferC a' c k = xferC a d j ∧ () = ()) ↔ (k = j ∧ d = c ∧ a = a') := by
      constructor
      · rintro ⟨h, -⟩
        have hc : c = d := congrArg (fun g : GSem nD τ sig => g.1.1) h
        have hs : (SemLoc.dma (dsem a' k) : SemLoc sig) = .dma (dsem a j) := congrArg Prod.snd h
        obtain ⟨h1, h2⟩ := dsem_inj (SemLoc.dma.inj hs)
        exact ⟨h2, hc.symm, h1.symm⟩
      · rintro ⟨rfl, rfl, rfl⟩; exact ⟨rfl, rfl⟩
    rw [tallyAt_apply]
    by_cases hk : k = j
    · rw [if_pos hk]; exact if_congr (e.trans (and_iff_right hk)) rfl rfl
    · rw [if_neg hk]; exact if_neg fun h => hk (e.mp h).1
  rw [dueFrom_zero, Finset.sum_apply, Finsupp.finset_sum_apply, Finset.sum_congr rfl fun j _ => h j,
    Finset.sum_ite_eq Finset.univ k fun _ => (if d = c ∧ a = a' then N else 0), if_pos (Finset.mem_univ _)]

theorem signal_bar (d c : Dev nD) : tallyAt (barC d) () 1 (barC c) () = if d = c then 1 else 0 := by
  rw [tallyAt_apply]
  refine if_congr ⟨fun h => (congrArg (fun g : GSem nD τ sig => g.1.1) h.1).symm, fun h => ?_⟩ rfl rfl
  subst h; exact ⟨rfl, rfl⟩
theorem signal_xfer (a : Fin 4) (d c : Dev nD) (k : Fin 8) : tallyAt (barC d) () 1 (xferC a c k) () = 0 := by
  rw [tallyAt_apply]
  refine if_neg fun h => ?_
  have h2 : (SemLoc.dma (dsem a k) : SemLoc sig) = .reg barrier0 := congrArg Prod.snd h.1
  cases h2

theorem owed_bar (d c : Dev nD) : due0 d (barC c) () = (if d = beside c then 1 else 0) + if d = across c then 1 else 0 := by
  unfold due0 due1
  simp only [Pi.add_apply, Finsupp.add_apply]
  rw [due_bar, due_bar, signal_bar, signal_bar, if_congr (beside_eq d c) rfl rfl, if_congr (across_eq d c) rfl rfl, zero_add, zero_add]
theorem owed_recvAcross (d c : Dev nD) (k : Fin 8) : due0 d (xferC recvAcross c k) () = if d = across c then N else 0 := by
  unfold due0 due1
  simp only [Pi.add_apply, Finsupp.add_apply]
  rw [due_xfer, due_xfer, signal_xfer, signal_xfer, if_neg (fun h => absurd h.2 (by decide)), zero_add, add_zero, add_zero]
  exact if_congr ((and_iff_left rfl).trans (across_eq d c)) rfl rfl
theorem owed_recvBeside (d c : Dev nD) (k : Fin 8) : due0 d (xferC recvBeside c k) () = if d = beside c then N else 0 := by
  unfold due0 due1
  simp only [Pi.add_apply, Finsupp.add_apply]
  rw [due_xfer, due_xfer, signal_xfer, signal_xfer, if_neg (c := across d = c ∧ recvAcross = recvBeside) (fun h => absurd h.2 (by decide)),
    add_zero, add_zero, add_zero]
  exact if_congr ((and_iff_left rfl).trans (beside_eq d c)) rfl rfl

/-! ## What the launch credits each cell with -/

/-- The credit of cell `g` sums what the devices owe to it. -/
theorem credit_of {g : GSem nD τ sig} {n : ℕ} (h : ∑ d, due0 d g () = n) :
    tallyOn g (launchCredit (Pipeline.owing due0) 0 g) = (tallyAt g () n : CellTallies nD τ sig Unit) := by
  unfold tallyAt
  refine congrArg _ (Finsupp.ext fun u => ?_)
  cases u
  rw [Pipeline.launchCredit_owing, h, Finsupp.single_eq_same]

theorem credit_bar (c : Dev nD) : ∑ d, due0 d (barC c) () = 2 := by
  rw [Finset.sum_congr rfl fun d _ => owed_bar d c, Finset.sum_add_distrib, Finset.sum_ite_eq' Finset.univ (beside c) fun _ => 1,
    Finset.sum_ite_eq' Finset.univ (across c) fun _ => 1, if_pos (Finset.mem_univ _), if_pos (Finset.mem_univ _)]
theorem credit_recvAcross (c : Dev nD) (k : Fin 8) : ∑ d, due0 d (xferC recvAcross c k) () = N := by
  rw [Finset.sum_congr rfl fun d _ => owed_recvAcross d c k, Finset.sum_ite_eq' Finset.univ (across c) fun _ => N, if_pos (Finset.mem_univ _)]
theorem credit_recvBeside (c : Dev nD) (k : Fin 8) : ∑ d, due0 d (xferC recvBeside c k) () = N := by
  rw [Finset.sum_congr rfl fun d _ => owed_recvBeside d c k, Finset.sum_ite_eq' Finset.univ (beside c) fun _ => N, if_pos (Finset.mem_univ _)]

omit [FloatOps F] in
/-- The launch's credits: two at the barrier, and a chunk's at each cell that receives. -/
theorem credits (c : Dev nD) : (Pipeline.launchCred due0 c : sProp 𝕄) ⊢ iprop(cred (tallyAt (barC c) () 2)
    ∗ (bigSep Finset.univ fun k => cred (tallyAt (xferC recvAcross c k) () N)) ∗ bigSep Finset.univ fun k => cred (tallyAt (xferC recvBeside c k) () N)) := by
  have hs : (Pipeline.launchCred due0 c : sProp 𝕄) ⊢ bigSep Finset.univ fun s : Slot =>
      cred (tallyOn (cell (c, s)) (launchCredit (Pipeline.owing due0) 0 (cell (c, s)))) := by
    unfold Pipeline.launchCred
    refine (bigSep_subset (Finset.subset_univ (Finset.univ.map ⟨slotSem, slotSem_injective⟩))).trans ?_
    rw [bigSep_map]
    exact BI.Entails.refl _
  refine hs.trans ?_
  rw [over_slots, over_roles]
  have h1 (k : Fin 8) : tallyOn (cell (c, some (recvAcross, k))) (launchCredit (Pipeline.owing due0) 0 (cell (c, some (recvAcross, k))))
      = (tallyAt (xferC recvAcross c k) () N : CellTallies nD τ sig Unit) := credit_of (credit_recvAcross c k)
  have h3 (k : Fin 8) : tallyOn (cell (c, some (recvBeside, k))) (launchCredit (Pipeline.owing due0) 0 (cell (c, some (recvBeside, k))))
      = (tallyAt (xferC recvBeside c k) () N : CellTallies nD τ sig Unit) := credit_of (credit_recvBeside c k)
  have h0 : tallyOn (cell (c, none)) (launchCredit (Pipeline.owing due0) 0 (cell (c, none)))
      = (tallyAt (barC c) () 2 : CellTallies nD τ sig Unit) := credit_of (credit_bar c)
  simp only [h0, h1, h3]
  iintro ⟨Hb, -, H1, -, H3⟩
  isplitl [Hb]; · iexact Hb
  isplitl [H1] <;> iassumption

/-! ## A device's start -/

variable (X : Dev nD → Block F)

/-- What a device starts the kernel with, for some names of the cells. -/
def start (c : Dev nD) : sProp 𝕄 := iprop(∃ K : Dev nD × Slot → ℕ, ghost X K c)

/-- A device's places, tokens and credits, sorted by what they are for. -/
theorem sort_keys (c : Dev nD) :
    iprop((bigSep Finset.univ fun s : Slot => atPos ER (cell (c, s)) 0 ∅ 0) ∗ payTokens (F := F) c ∗ cred (tallyAt (barC c) () 2)
        ∗ (bigSep Finset.univ fun k => cred (tallyAt (xferC recvAcross c k) () N)) ∗ bigSep Finset.univ fun k => cred (tallyAt (xferC recvBeside c k) () N))
      ⊢ iprop(bars (F := F) c ∗ (bigSep Finset.univ fun k => forAcross (F := F) c k) ∗ bigSep Finset.univ fun k => tokBeside (F := F) c k) := by
  rw [over_slots, over_roles]
  unfold bars payTokens forAcross tokBeside keys
  simp only [bigSep_sep']
  iintro ⟨⟨Pb, P0, P1, P2, P3⟩, ⟨Tf, Tt, T0, T1, T2, T3⟩, Cb, C1, C3⟩
  isplitl [Pb Cb Tf Tt]
  · isplitl [Pb]; · iexact Pb
    isplitl [Cb]; · iexact Cb
    isplitl [Tf] <;> iassumption
  isplitl [P0 P1 T0 T1 C1]
  · isplitl [T1]; · iexact T1
    isplitl [T0]; · iexact T0
    isplitl [P0]; · iexact P0
    isplitl [P1] <;> iassumption
  isplitl [T3]; · iexact T3
  isplitl [T2]; · iexact T2
  isplitl [P2]; · iexact P2
  isplitl [P3] <;> iassumption

theorem start_of (c : Dev nD) : iprop(dealt X c ∗ levAts L lv ∗ Pipeline.launchCred due0 c) ⊢ start X c := by
  unfold dealt start ghost records
  iintro ⟨⟨%K, ⟨HI, HR⟩, HP, HT⟩, HL, HC⟩
  ihave HC := (credits (F := F) c) $$ HC
  ihave H := (sort_keys (F := F) c) $$ [HP HT HC]
  · isplitl [HP]; · iexact HP
    isplitl [HT] <;> iassumption
  iexists K
  isplitl [HI HR HL]
  · isplitl [HI]; · iexact HI
    isplitl [HR] <;> iassumption
  iexact H

/-! ## Waiting on the operands' copies -/

/-- Whatever a device owes at the start, it may wait for an operand's copy. -/
theorem mayWait_stage (c : Dev nD) (q : DmaSem sig) (hq : q.val < 2) (O : CellTallies nD τ sig Unit) (hO : O = due0 c ∨ O = 0) :
    (levAts L lv : sProp 𝕄) ⊢ MayWait (c : Thread nD τ) (.dma q) () O := by
  refine mayWait_below c _ _ fun g u h => ?_
  rcases hO with rfl | rfl
  · have h2 : ¬2 ≤ q.val := Nat.not_le.mpr hq
    have hl : lvlOf (.dma q) = 0 := by unfold lvlOf; simp only [h2, _root_.false_and, if_false]
    rw [hl]
    unfold due0 due1 at h
    simp only [Pi.add_apply, Finsupp.add_apply] at h
    rcases (by omega : 0 < dueFrom recvBeside (beside c) 0 g u ∨ 0 < dueFrom recvAcross (across c) 0 g u
        ∨ 0 < tallyAt (barC (beside c)) () 1 g u ∨ 0 < tallyAt (barC (across c)) () 1 g u) with h | h | h | h
    · obtain ⟨k, rfl⟩ := dueFrom_pos h; exact ⟨rfl, by rw [lvl_recvBeside]; exact Nat.succ_pos _⟩
    · obtain ⟨k, rfl⟩ := dueFrom_pos h; exact ⟨rfl, by rw [lvl_recvAcross]; exact Nat.succ_pos _⟩
    · obtain ⟨rfl, -⟩ := Pipeline.tallyAt_pos h; exact ⟨rfl, Nat.one_pos⟩
    · obtain ⟨rfl, -⟩ := Pipeline.tallyAt_pos h; exact ⟨rfl, Nat.one_pos⟩
  · exact absurd h (Nat.lt_irrefl _)

end Cert.PlaneSum

end
-- ==== Proof.Launch.lean ====
/-
The launch: on a mesh of four devices, from any memory with every semaphore at zero, the program ends
with each device's arrays at the contents computed here and every semaphore back at zero.
-/
module

public import proofs.«01_k».proof.Proof.Credits
public import Idealize.ShloMosaic.Lib.Pipeline.CollectiveSegs

@[expose] public section

noncomputable section

namespace Cert.PlaneSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (l : Loc nD τ sig) → Buf (Elt F) l) (ρ : Dev nD → PrngReg)

/-- The state the program starts in. -/
def s₀ : MemSt nD τ sig (Elt F) := ⟨m, fun _ => 0, ρ⟩

/-- Device `c`'s block of `x`, as the pipeline stages it. -/
def blockAt (c : Dev nD) : Block F := (win0_0.blk (0 : Fin 1)).view.read (Elt F) ((s₀ m ρ).mem ((c : Thread nD τ).loc main_arg0))

/-! ## The pipeline's data -/

/-- Before the kernel: its part of the protocol and the scratch. -/
def before (c : Dev nD) : sProp 𝕄 :=
  iprop(start (blockAt m ρ) c ∗ ∃ f, ((c : Thread nD τ).loc cc0_scratch0) ↦{fullShare} f)
/-- After the kernel: the scratch, and every semaphore at zero. -/
def afterwards (c : Dev nD) : sProp 𝕄 :=
  iprop((((c : Thread nD τ).loc cc0_scratch0) ↦{fullShare} (scrF (blockAt m ρ) c)) ∗ zeros (F := F) c ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blockAt m ρ c
    | ⟨1, _⟩ => outF (blockAt m ρ) c
  Φ t := match t with
    | ⟨0, _⟩ => before m ρ c
    | ⟨_ + 1, _⟩ => afterwards m ρ c
  q _ := fullShare
  owed t := match t with
    | ⟨0, _⟩ => due0 c
    | ⟨_ + 1, _⟩ => 0

/-! ## The body -/

omit [FloatOps F] in
theorem owns_whole (c : Dev nD) (b : Ref sig .tc) (f : Buf (Elt F) ((c : Thread nD τ).loc b)) :
    (owns c (Memref.whole b) fullShare f : sProp 𝕄) = iprop(∃ g, ⌜g = f⌝ ∗ (((c : Thread nD τ).loc b) ↦{fullShare} g)) := by
  unfold owns
  simp only [Memref.view_whole, View.read_whole, View.set_whole]

/-- A staging buffer holding `f`. -/
abbrev stages (c : Dev nD) (b : Ref sig .tc) (f : Buf (Elt F) ((c : Thread nD τ).loc b)) : sProp 𝕄 :=
  iprop(∃ g, ⌜g = f⌝ ∗ (((c : Thread nD τ).loc b) ↦{fullShare} g))

/-- The pipeline's side of the kernel before it runs, and after. -/
def bodyPre (c : Dev nD) : sProp 𝕄 :=
  iprop(before m ρ c ∗ (dats m ρ 0 c).owesAt () t0_0.castSucc
    ∗ (∃ d, stages c cc0_stg0_0 ((dats m ρ 0 c).before (0 : Fin 2) t0_0 d)) ∗ (∃ d, stages c cc0_stg1_0 ((dats m ρ 0 c).before (1 : Fin 2) t0_0 d)))
def bodyPost (c : Dev nD) : sProp 𝕄 :=
  iprop(afterwards m ρ c ∗ (dats m ρ 0 c).owesAt () t0_0.succ
    ∗ stages c cc0_stg0_0 (blockAt m ρ c) ∗ stages c cc0_stg1_0 (outF (blockAt m ρ) c))

theorem staged_x (c : Dev nD) (d) : (dats m ρ 0 c).before (0 : Fin 2) t0_0 d = blockAt m ρ c := by
  unfold Dat.before; rw [if_pos (fetch0_0 _)]; rfl

/-- What the body needs, from the pipeline's side. -/
theorem body_pre (c : Dev nD) : bodyPre m ρ c ⊢ iprop(∃ K, ghost (blockAt m ρ) K c ∗ (∃ f, ((c : Thread nD τ).loc cc0_scratch0) ↦{fullShare} f)
    ∗ (∃ f, ((c : Thread nD τ).loc cc0_stg1_0) ↦{fullShare} f) ∗ held (F := F) c (due0 c) ∗ xPt (blockAt m ρ) c) := by
  unfold bodyPre before start Dat.owesAt Pipeline.owesWithin held xPt
  iintro ⟨⟨⟨%K, Hg⟩, Hs⟩, ⟨%W, %hW, HO⟩, ⟨%d, %g, %hg, Hx⟩, ⟨%d', %g', %hg', Ho⟩⟩
  subst hg
  rw [staged_x]
  iexists K
  isplitl [Hg]; · iexact Hg
  isplitl [Hs]; · iexact Hs
  isplitl [Ho]; · iexists g'; iexact Ho
  isplitl [HO]; · iexists W; iexact HO
  iexact Hx

/-- What the pipeline gets, from the body's end. -/
theorem body_post (c : Dev nD) : iprop((((c : Thread nD τ).loc cc0_scratch0) ↦{fullShare} (scrF (blockAt m ρ) c))
      ∗ (((c : Thread nD τ).loc cc0_stg1_0) ↦{fullShare} (outF (blockAt m ρ) c))
      ∗ zeros (F := F) c ∗ semVal (barC c) 0 ∗ held (F := F) c 0 ∗ xPt (blockAt m ρ) c) ⊢ bodyPost m ρ c := by
  unfold bodyPost afterwards Dat.owesAt Pipeline.owesWithin held xPt
  iintro ⟨Hs, Ho, Hz, Hb, ⟨%W, HO⟩, Hx⟩
  isplitl [Hs Hz Hb]
  · isplitl [Hs]; · iexact Hs
    isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 65536 in
/-- The kernel meets the pipeline's demand on its body. -/
theorem body_obligation (c : Dev nD) : BodyObligation (dats (F := F) m ρ 0 c) (defs₀ (F := F)) 𝒱₀ () Set.univ := fun t => by
  rw [fin_N0 t, bigSep_W0, bigSep_W0]
  simp only [owns_whole]
  show bodyPre m ρ c ⊢ run c (cc0_body (Memref.whole cc0_stg0_0) (Memref.isWhole_whole _) (Memref.whole cc0_stg1_0) (Memref.isWhole_whole _)
    (Memref.whole cc0_scratch0) (Memref.isWhole_whole _) cc0_scratch1 cc0_scratch2 cc0_scratch3 cc0_scratch4) (fun _ => bodyPost m ρ c)
  iintro H
  ihave H := (body_pre m ρ c) $$ H
  icases H with ⟨%K, H⟩
  iapply (sound_body (blockAt m ρ) K c fun _ => bodyPost m ρ c)
  isplitl; · iexact H
  iintro H
  iapply (body_post m ρ c); iexact H

/-! ## The launch's side conditions -/

theorem share_eq (c : Dev nD) (w : Fin cfg0.W) : (dats m ρ 0 c).share w = fullShare := by unfold Dat.share; split <;> rfl

/-- The ghost state the launch starts from: the pipeline's, and the protocol's. -/
def u₀ : UU := (initOf (Pipeline.cells cfgs cellOf_inj) (Pipeline.launchToks cfgs cellOf_inj), initOf allCells allTokens)

theorem start_intro (c : Dev nD) :
    iprop(Pipeline.unscopedRestP Pipeline.Prefetch.none cfg0.spec c (fun b => m ((c : Thread nD τ).loc b)) ∗ levAts L lv
        ∗ Pipeline.launchCred due0 c ∗ prngReg c (ρ c) ∗ dealt (blockAt m ρ) c)
      ⊢ |={Set.univ}=> iprop(start (blockAt m ρ) c ∗ emp) := by
  iintro ⟨-, HL, HC, -, HD⟩
  imodintro
  isplitl
  · iapply (start_of (blockAt m ρ) c)
    isplitl [HD]; · iexact HD
    isplitl [HL] <;> iassumption
  · iempintro

theorem enter (c : Dev nD) :
    iprop(start (blockAt m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = afterwards m ρ c from rfl, scopedRest0_eq, unscoped_eq]
  unfold afterwards
  iintro ⟨Hr, Hz, Hb⟩
  isplitl [Hb]; · iexact Hb
  isplitl [Hz]; · iapply (Entails.of_eq (ownZero_eq (F := F) c).symm); iexact Hz
  iexists _; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s array of operand or result `w` ends with. -/
def finalA (c : Dev nD) (w : Fin cfg0.W) : Buf (Elt F) ((cfg0.win w).arr.view.loc (c : Thread nD τ)) := (dats m ρ 0 c).arrAt w cfg0.N

set_option maxRecDepth 8000 in
/-- Whatever the float values are, from any memory with every semaphore at zero: every fair run of the program
    ends, with each device's arrays at their final contents and every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := due0) (howed₀ := fun _ => rfl) (howedN := fun _ => rfl)
    (L := L) (lv := lv) (hL := L_of_ne) (hwaits := waits m ρ)
    (G := minted (blockAt m ρ)) (G' := dealt (blockAt m ρ)) (u₀ := u₀)
    (hu₀ := by
      unfold u₀
      iintro Hu
      ihave H := (ownU_pair _ _) $$ Hu
      icases H with ⟨HP, HX⟩
      imod (mint (blockAt m ρ)) $$ HX with HG
      imodintro
      isplitl [HP] <;> iassumption)
    (hglob := deal (blockAt m ρ))
    (hA := fun _ _ => rfl) (hpf := fun _ k => k.elim0)
    (X := start (blockAt m ρ)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` ends as it began. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.PlaneSum

end
-- ==== Proof.Arrays.lean ====
/-
What the arrays of a device hold: its staged block is its argument, and its result array ends with the
result computed by the kernel.
-/
module

public import proofs.«01_k».proof.Proof.Launch
public import Idealize.ShloMosaic.Lib.Pipeline.Value

@[expose] public section

noncomputable section

namespace Cert.PlaneSum

open Cert.KernelIdeal Cert.KernelIdeal.Gen
open Idealize.ShloMosaic Idealize.ShloMosaic.TcCoe
open Idealize.SL.Sem
open Idealize.ShloMosaic.Pipeline

variable {F : FTy → Type} [FloatOps F]
variable (m : (l : Loc nD τ sig) → Buf (Elt F) l) (ρ : Dev nD → PrngReg) (c : Dev nD)

/-- The staged block is the device's argument. -/
theorem blockAt_eq : blockAt m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) (m ((c : Thread nD τ).loc main_arg0))

/-- The result's one block, read back from the final array, is the kernel's result. -/
theorem flushed_out : (win0_1.blk (0 : Fin 1)).view.read (Elt F) (finalA m ρ c (1 : Fin 2)) = outF (blockAt m ρ) c := by
  have hN : cfg0.N = ((0 : Fin 1) : Fin cfg0.N).val + 1 := rfl
  unfold finalA
  rw [hN, (dats m ρ 0 c).arrAt_succ (1 : Fin 2) (0 : Fin 1), if_pos (flush0_1 (0 : Fin 1))]
  exact View.read_write_univ _ _

/-- The result array ends with the kernel's result. -/
theorem finalA_out : finalA m ρ c (1 : Fin 2) = outF (blockAt m ρ) c :=
  (Memref.read_access_unit_zero (Elt F) main_v1 (off := fun a => win0_1.index (0 : Fin 1) a * main_v1.ty.shape.size a)
    (funext fun a => by fin_cases a <;> decide) (fun a => by fin_cases a <;> decide) (finalA m ρ c (1 : Fin 2))).symm.trans (flushed_out m ρ c)

/-- The run, read at a device's argument and result. -/
theorem run_arrays : θ_run defs (onTc (τ := τ) (main (F := F))) ⟨m, fun _ => 0, ρ⟩ (fun r =>
    (∀ c : Dev nD, r.2.mem ((c.tc : Thread nD τ).loc main_v1) = outF (fun d : Dev nD => m ((d.tc : Thread nD τ).loc main_arg0)) c
      ∧ r.2.mem ((c.tc : Thread nD τ).loc main_arg0) = m ((c.tc : Thread nD τ).loc main_arg0)) ∧ r.2.sem = fun _ => 0) := by
  refine (θ_run defs _ _).mono (fun r h => ⟨fun c => ⟨?_, (h.1 c (0 : Fin 2)).trans (finalA_x m ρ c)⟩, h.2⟩) (run_main m ρ)
  have hX : blockAt m ρ = fun d : Dev nD => m ((d.tc : Thread nD τ).loc main_arg0) := funext fun d => blockAt_eq m ρ d
  rw [← hX]
  exact (h.1 c (1 : Fin 2)).trans (finalA_out m ρ c)

end Cert.PlaneSum

end
-- ==== Proof.Sum.lean ====
/-
The values. The reference adds the two halves of `x`, its upper 512 rows and its lower ones. With the
floats read as extended reals, every device's result is that sum.
-/
module

public import proofs.«01_k».proof.Proof.Pieces
public import proofs.«01_k».proof.Proof.Gen.ReferenceIdeal
public import Idealize.ShloMosaic.Lib.Layout
public import Idealize.ShloMosaic.Lib.Pipeline.Value
public import Idealize.ShloMosaic.Lib.Pointwise

@[expose] public section

noncomputable section

namespace Cert.PlaneSum

open Cert.KernelIdeal Cert.KernelIdeal.Gen
open Idealize.ShloMosaic Idealize.ShloMosaic.TcCoe

/-! ## The reference -/

/-- The whole array `x`. -/
abbrev Whole : Type := FVec Ideal Cert.ReferenceIdeal.S1024x1024 .bf16

/-- What the reference computes from `x`. -/
def refSum (x : Whole) : FVec Ideal Cert.ReferenceIdeal.S512x1024 .bf16 :=
  truncf (F := Ideal) .bf16 (Host.reduceAdd (F := Ideal) (extf (F := Ideal) .f32 (shapeCast _ x Cert.ReferenceIdeal.Gen.shapeCasts_S1024x1024_S2x512x1024) Cert.ReferenceIdeal.Gen.bitsLt_bf16_f32)
    (constant Cert.ReferenceIdeal.S_ .f32 0x00000000#32) Cert.ReferenceIdeal.Gen.reducesTo_S2x512x1024_S512x1024_d0 Cert.ReferenceIdeal.Gen.h_S_)
    Cert.ReferenceIdeal.Gen.bitsLt_bf16_f32

/-- The entry of `x` in row `512 h + r` and column `j`. -/
def entry (h : Fin 2) (i : S512x1024.Idx) : Cert.ReferenceIdeal.S1024x1024.Idx := fun a => match a with
  | ⟨0, _⟩ => ⟨512 * h.val + (i 0).val, by have h0 : (i 0).val < 512 := (i 0).isLt; show 512 * h.val + (i 0).val < 1024; omega⟩
  | ⟨1, _⟩ => i 1

/-- The reference's entry is the sum of the two entries of `x` 512 rows apart. -/
theorem refSum_apply (x : Whole) (i : S512x1024.Idx) : refSum x i = (x (entry 0 i) + x (entry 1 i) : EReal) := by
  have hx (h : Fin 2) (y : Cert.ReferenceIdeal.S2x512x1024.Idx) (h0 : (y 0).val = h.val) (h1 : (y 1).val = (i 0).val) (h2 : (y 2).val = (i 1).val) :
      shapeCast Cert.ReferenceIdeal.S2x512x1024 x Cert.ReferenceIdeal.Gen.shapeCasts_S1024x1024_S2x512x1024 y = x (entry h i) := by
    refine shapeCast_apply x _ y (entry h i) ?_
    rw [Shape.rowMajor_val_two, Shape.rowMajor_val_three, h0, h1, h2]
    show (512 * h.val + (i 0).val) * 1024 + (i 1).val = (h.val * 512 + (i 0).val) * 1024 + (i 1).val
    rw [Nat.mul_comm 512]
  unfold refSum
  rw [truncf_apply, Ideal.truncf_def, Host.reduceAdd_apply, Ideal.hostReduceAdd_def, Ideal.hostReduceAdd_r3_a0, Fin.sum_univ_two,
    extf_apply, extf_apply, Ideal.extf_def, Ideal.extf_def, hx 0 _ rfl rfl rfl, hx 1 _ rfl rfl rfl]
  have hz : constant (F := Ideal) Cert.ReferenceIdeal.S_ .f32 0x00000000#32 (Shape.Idx.first Cert.ReferenceIdeal.Gen.h_S_) = (0 : EReal) :=
    Ideal.ofBits_zero_f32
  rw [hz, zero_add]

/-! ## The blocks -/

/-- Device `c`'s block of `x`. -/
def blockOf (x : Whole) (c : Dev nD) : Block Ideal := Layout.blockN ⟨2, ![512, 512]⟩ ⟨2, ![1024, 1024]⟩ (Layout.meshBlock [2, 2] ![[0], [1]] c) x

theorem row_of (c : Dev nD) : Layout.meshLin [2, 2] c.val [0] = c.val / 2 := by revert c; decide
theorem col_of (c : Dev nD) : Layout.meshLin [2, 2] c.val [1] = c.val % 2 := by revert c; decide

/-- Its entries: the block of row `c / 2` and column `c % 2`. -/
theorem blockOf_at (x : Whole) (c : Dev nD) (h : Fin 2) (i : S512x1024.Idx) (hr : c.val / 2 = h.val) (hc : c.val % 2 = (i 1).val / 512) :
    blockOf x c (at2 (i 0).val (i 1).val) = x (entry h i) := by
  have h0 : (i 0).val < 512 := (i 0).isLt
  have h1 : (i 1).val < 1024 := (i 1).isLt
  unfold blockOf
  rw [Layout.blockN_apply]
  refine congrArg x (funext fun a => Fin.ext ?_)
  rw [Layout.TilesN.idx_val]
  fin_cases a
  · have e := row_of c
    show Layout.meshLin [2, 2] c.val [0] * 512 + (i 0).val % 512 = 512 * h.val + (i 0).val
    rw [e]; omega
  · have e := col_of c
    show Layout.meshLin [2, 2] c.val [1] * 512 + (i 1).val % 512 = (i 1).val
    rw [e]; omega

theorem col_inRow (c : Dev nD) (h : Fin 2) : (inRow c h).val % 2 = h.val := by revert c h; decide
theorem col_across_inRow (c : Dev nD) (h : Fin 2) : (across (inRow c h)).val % 2 = h.val := by revert c h; decide
/-- A device and the one across are in different rows. -/
theorem rows (c : Dev nD) (h : Fin 2) :
    ((inRow c h).val / 2 = (0 : Fin 2).val ∧ (across (inRow c h)).val / 2 = (1 : Fin 2).val)
      ∨ ((inRow c h).val / 2 = (1 : Fin 2).val ∧ (across (inRow c h)).val / 2 = (0 : Fin 2).val) := by revert c h; decide

/-- Every device's result is the reference's sum: the devices of row 1 add the two blocks in the other order. -/
theorem outF_eq (x : Whole) (c : Dev nD) : outF (blockOf x) c = refSum x := by
  funext i
  have h1 : (i 1).val < 1024 := (i 1).isLt
  rw [refSum_apply]
  unfold outF
  have hd : (⟨(i 1).val / 512 % 2, Nat.mod_lt _ (by decide)⟩ : Fin 2).val = (i 1).val / 512 := Nat.mod_eq_of_lt (by omega)
  revert hd
  generalize (⟨(i 1).val / 512 % 2, Nat.mod_lt _ (by decide)⟩ : Fin 2) = h
  intro hd
  have hc := col_inRow c h
  have hc' := col_across_inRow c h
  show (blockOf x (inRow c h) (at2 (i 0).val (i 1).val) + blockOf x (across (inRow c h)) (at2 (i 0).val (i 1).val) : EReal) = _
  rcases rows c h with ⟨ha, hb⟩ | ⟨ha, hb⟩
  · rw [blockOf_at x _ 0 i ha (hc.trans hd), blockOf_at x _ 1 i hb (hc'.trans hd)]
  · rw [blockOf_at x _ 1 i ha (hc.trans hd), blockOf_at x _ 0 i hb (hc'.trans hd), add_comm]

end Cert.PlaneSum

end
-- ==== Proof.lean ====
/-
The proof of `Cert.Claim` for the plane-sum kernel on a 2 x 2 mesh.

The kernel is run once, for any float values, in Proof/Launch.lean and Proof/Arrays.lean: it ends, each
device's argument as it was, each device's result as computed there, every semaphore at zero. Its frames
are that run at the machine's floats and at the extended reals. The value claim adds that, at the extended
reals, every device's result is the reference's sum (Proof/Sum.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Arrays
public import proofs.«01_k».proof.Proof.Sum
public import Idealize.ShloMosaic.Adequacy
public import Idealize.ShloMosaic.Init

@[expose] public section

noncomputable section

namespace Cert.Proof

open Idealize.ShloMosaic Idealize.SL.Sem Cert.Kernel

set_option smartUnfolding false in
/-- The two printed kernels define the same functions: no operation was replaced between them. -/
theorem defs_same : Cert.Kernel.defs (F := Bits) = Cert.KernelIdeal.defs (F := Bits) := rfl

set_option smartUnfolding false in
/-- The two printed kernels have the same entry. -/
theorem main_same : Cert.Kernel.main (F := Bits) = Cert.KernelIdeal.main (F := Bits) := rfl

/-- The kernel, at the machine's floats, ends with its arguments unchanged and every semaphore at zero. -/
theorem frame_kernel : Cert.quiescent_Kernel := by
  intro m ρ _
  rw [defs_same, main_same]
  exact (θ_run (Cert.KernelIdeal.defs (F := Bits)) _ _).mono
    (fun _ h => ⟨fun c => (h.1 c).2, h.2⟩) (Cert.PlaneSum.run_arrays (F := Bits) m ρ)

/-- The kernel, at the extended reals, ends with its arguments unchanged and every semaphore at zero. -/
theorem frame_kernelIdeal : Cert.quiescent_KernelIdeal := fun m ρ _ =>
  (θ_run Cert.KernelIdeal.defs _ _).mono (fun _ h => ⟨fun c => (h.1 c).2, h.2⟩) (Cert.PlaneSum.run_arrays (F := Ideal) m ρ)

/-- The reference ends with its argument unchanged; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On devices that hold their blocks of `x`, every device ends with the reference's sum of the halves of `x`. -/
theorem value : Cert.algebraic_KernelIdeal_ReferenceIdeal := by
  intro m ρ m' ρ' _ hblocks
  refine ⟨Cert.PlaneSum.refSum (m' (((0 : Dev Cert.ReferenceIdeal.nD).tc : Thread _ Cert.ReferenceIdeal.τ).loc Cert.ReferenceIdeal.main_arg0)), ?_, ?_⟩
  · refine (θ_run Cert.KernelIdeal.defs _ _).mono (fun _ h c => ⟨(h.1 c).1.trans ?_, (h.1 c).2⟩) (Cert.PlaneSum.run_arrays (F := Ideal) m ρ)
    rw [funext hblocks]
    exact Cert.PlaneSum.outF_eq _ c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
